-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_kth_score_gap [hPre_kth_score_gap : Cert.Pre_kth_score_gap.Facts] (m : (ℓ : Loc Cert.KernelIdeal.nD Cert.KernelIdeal.τ Cert.KernelIdeal.sig) → Buf (Elt Ideal) ℓ) : Prop :=
  ∀ c : Dev Cert.KernelIdeal.nD,
    (Cert.Pre_kth_score_gap.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_kth_score_gap [hPre_kth_score_gap : Cert.Pre_kth_score_gap.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_kth_score_gap.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_kth_score_gap [hKernelIdeal : Cert.KernelIdeal.Facts] [hPre_kth_score_gap : Cert.Pre_kth_score_gap.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kth_score_gap m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_kth_score_gap [hReferenceIdeal : Cert.ReferenceIdeal.Facts] [hPre_kth_score_gap : Cert.Pre_kth_score_gap.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_kth_score_gap m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_kth_score_gap [hKernelIdeal : Cert.KernelIdeal.Facts] [hReferenceIdeal : Cert.ReferenceIdeal.Facts] [hPre_kth_score_gap : Cert.Pre_kth_score_gap.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_kth_score_gap m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_kth_score_gap : Cert.Pre_kth_score_gap.Facts),
    quiescent_Kernel (hKernel := hKernel)
    ∧ quiescent_KernelIdeal (hKernelIdeal := hKernelIdeal)
    ∧ quiescent_KernelIdeal_pre_kth_score_gap (hKernelIdeal := hKernelIdeal) (hPre_kth_score_gap := hPre_kth_score_gap)
    ∧ quiescent_ReferenceIdeal (hReferenceIdeal := hReferenceIdeal)
    ∧ quiescent_ReferenceIdeal_pre_kth_score_gap (hReferenceIdeal := hReferenceIdeal) (hPre_kth_score_gap := hPre_kth_score_gap)
    ∧ preserves_Kernel_KernelIdeal
    ∧ algebraic_KernelIdeal_ReferenceIdeal_pre_kth_score_gap (hKernelIdeal := hKernelIdeal) (hReferenceIdeal := hReferenceIdeal) (hPre_kth_score_gap := hPre_kth_score_gap)
-- ==== Pre_kth_score_gap.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S4x1024x2048 : Shape := ⟨3, ![4, 1024, 2048]⟩
abbrev S4x2048x2048 : Shape := ⟨3, ![4, 2048, 2048]⟩
abbrev S4x2048x50 : Shape := ⟨3, ![4, 2048, 50]⟩

class Facts : Prop where
  reducesTo_S4x2048x1024_S4x2048_d2 : S4x2048x1024.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  transposes_S4x2048x1024_S4x1024x2048_0_2_1 : S4x2048x1024.Transposes [0, 2, 1] S4x1024x2048
  bcast_S_S4x2048x2048 : S_.BroadcastsInDim S4x2048x2048 (![] : Fin 0 → Fin S4x2048x2048.rank)
  sliceFits_S4x2048x2048_S4x2048x50 : S4x2048x2048.Slices (fun _ => 0) S4x2048x50
  slices_S4x2048x50_S4x2048x1_0_0_48 : S4x2048x50.Slices ![0, 0, 48] S4x2048x1
  shapeCasts_S4x2048x1_S4x2048 : S4x2048x1.ShapeCasts S4x2048
  slices_S4x2048x50_S4x2048x1_0_0_49 : S4x2048x50.Slices ![0, 0, 49] S4x2048x1
  bcast_S_S4x2048 : S_.BroadcastsInDim S4x2048 (![] : Fin 0 → Fin S4x2048.rank)
  dot_S4x2048x1024_S1024x1024_S4x2048x1024_2_0_01_1_n_n_wf : DotDims.WF S4x2048x1024 S1024x1024 S4x2048x1024 [2] [0] [0, 1] [1] [] []
  dot_S4x2048x1024_S4x1024x2048_S4x2048x2048_2_1_1_2_0_0_wf : DotDims.WF S4x2048x1024 S4x1024x2048 S4x2048x2048 [2] [1] [1] [2] [0] [0]

variable [Facts]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x1024x2048_S4x2048x2048_2_1_1_2_0_0 : DotDims S4x2048x1024 S4x1024x2048 S4x2048x2048 where
  lhsContracting := [2]
  rhsContracting := [1]
  lhsNonContracting := [1]
  rhsNonContracting := [2]
  lhsBatch := [0]
  rhsBatch := [0]
  wf := dot_S4x2048x1024_S4x1024x2048_S4x2048x2048_2_1_1_2_0_0_wf
def fn_part1 {F : FTy → Type} [FloatOps F] (main_v19 : FVec F S4x2048x2048 .f32) : IVec S4x2048 1 :=
  let main_cst_3 : FVec F S_ .f32 := constant S_ .f32 0x3D000000#32
  let main_v20 : FVec F S4x2048x2048 .f32 := broadcastInDim S4x2048x2048 ![] bcast_S_S4x2048x2048 main_cst_3
  let main_v21 : FVec F S4x2048x2048 .f32 := mulf main_v19 main_v20
  let main_values : FVec F S4x2048x50 .f32 := (fun x => (Host.topK S4x2048x50 2 (FloatOps.cmpfTotal .gt) x sliceFits_S4x2048x2048_S4x2048x50).1) main_v21
  let main_indices : IVec S4x2048x50 32 := (fun x => (Host.topK S4x2048x50 2 (FloatOps.cmpfTotal .gt) x sliceFits_S4x2048x2048_S4x2048x50).2) main_v21
  let main_v22 : FVec F S4x2048x1 .f32 := (extractStridedSlice S4x2048x1 ![0, 0, 48] · slices_S4x2048x50_S4x2048x1_0_0_48) main_values
  let main_v23 : FVec F S4x2048 .f32 := shapeCast S4x2048 main_v22 shapeCasts_S4x2048x1_S4x2048
  let main_v24 : FVec F S4x2048x1 .f32 := (extractStridedSlice S4x2048x1 ![0, 0, 49] · slices_S4x2048x50_S4x2048x1_0_0_49) main_values
  let main_v25 : FVec F S4x2048 .f32 := shapeCast S4x2048 main_v24 shapeCasts_S4x2048x1_S4x2048
  let main_v26 : FVec F S4x2048 .f32 := subf main_v23 main_v25
  let main_cst_4 : FVec F S_ .f32 := constant S_ .f32 0x340147AE#32
  let main_v27 : FVec F S4x2048 .f32 := broadcastInDim S4x2048 ![] bcast_S_S4x2048 main_cst_4
  let main_v28 : IVec S4x2048 1 := cmpf .oge main_v26 main_v27
  main_v28

def fn {F : FTy → Type} [FloatOps F] (main_arg0 : FVec F S4x2048x1024 .f32) (main_arg1 : FVec F S1024x1024 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) : IVec S4x2048 1 :=
  let main_v0 : FVec F S4x2048x1024 .f32 := (fun l r => Host.dotGeneral dot_S4x2048x1024_S1024x1024_S4x2048x1024_2_0_01_1_n_n none l r) main_arg0 main_arg1
  let main_v1 : FVec F S4x2048x1024 .f32 := mulf main_v0 main_v0
  let main_cst : FVec F S_ .f32 := constant S_ .f32 0x00000000#32
  let main_v2 : FVec F S4x2048 .f32 := (fun x v => Host.reduceAdd x v reducesTo_S4x2048x1024_S4x2048_d2 h_S_) main_v1 main_cst
  let main_v3 : FVec F S4x2048x1 .f32 := broadcastInDim S4x2048x1 ![0, 1] bcast_S4x2048_S4x2048x1_0_1 main_v2
  let main_v4 : FVec F S4x2048x1 .f32 := Host.sqrt main_v3
  let main_cst_0 : FVec F S_ .f32 := constant S_ .f32 0x2B8CBCCC#32
  let main_v5 : FVec F S4x2048x1 .f32 := broadcastInDim S4x2048x1 ![] bcast_S_S4x2048x1 main_cst_0
  let main_v6 : FVec F S4x2048x1 .f32 := maximumf main_v4 main_v5
  let main_v7 : FVec F S4x2048x1024 .f32 := broadcastInDim S4x2048x1024 ![0, 1, 2] bcast_S4x2048x1_S4x2048x1024_0_1_2 main_v6
  let main_v8 : FVec F S4x2048x1024 .f32 := Host.divf main_v0 main_v7
  let main_v9 : FVec F S4x2048x1024 .f32 := (fun l r => Host.dotGeneral dot_S4x2048x1024_S1024x1024_S4x2048x1024_2_0_01_1_n_n none l r) main_arg0 main_arg2
  let main_v10 : FVec F S4x2048x1024 .f32 := mulf main_v9 main_v9
  let main_cst_1 : FVec F S_ .f32 := constant S_ .f32 0x00000000#32
  let main_v11 : FVec F S4x2048 .f32 := (fun x v => Host.reduceAdd x v reducesTo_S4x2048x1024_S4x2048_d2 h_S_) main_v10 main_cst_1
  let main_v12 : FVec F S4x2048x1 .f32 := broadcastInDim S4x2048x1 ![0, 1] bcast_S4x2048_S4x2048x1_0_1 main_v11
  let main_v13 : FVec F S4x2048x1 .f32 := Host.sqrt main_v12
  let main_cst_2 : FVec F S_ .f32 := constant S_ .f32 0x2B8CBCCC#32
  let main_v14 : FVec F S4x2048x1 .f32 := broadcastInDim S4x2048x1 ![] bcast_S_S4x2048x1 main_cst_2
  let main_v15 : FVec F S4x2048x1 .f32 := maximumf main_v13 main_v14
  let main_v16 : FVec F S4x2048x1024 .f32 := broadcastInDim S4x2048x1024 ![0, 1, 2] bcast_S4x2048x1_S4x2048x1024_0_1_2 main_v15
  let main_v17 : FVec F S4x2048x1024 .f32 := Host.divf main_v9 main_v16
  let main_v18 : FVec F S4x1024x2048 .f32 := (transpose S4x1024x2048 [0, 2, 1] · transposes_S4x2048x1024_S4x1024x2048_0_2_1) main_v17
  let main_v19 : FVec F S4x2048x2048 .f32 := (fun l r => Host.dotGeneral dot_S4x2048x1024_S4x1024x2048_S4x2048x2048_2_1_1_2_0_0 none l r) main_v8 main_v18
  fn_part1 (F := F) main_v19
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x1024x1024 : Shape := ⟨3, ![1, 1024, 1024]⟩
abbrev S4x1024x1024 : Shape := ⟨3, ![4, 1024, 1024]⟩
abbrev S1x1024 : Shape := ⟨2, ![1, 1024]⟩
abbrev S4x1024 : Shape := ⟨2, ![4, 1024]⟩
abbrev S4x1x1024 : Shape := ⟨3, ![4, 1, 1024]⟩
abbrev S4x1024x2048 : Shape := ⟨3, ![4, 1024, 2048]⟩
abbrev S1x256x1024 : Shape := ⟨3, ![1, 256, 1024]⟩
abbrev S1x1024x256 : Shape := ⟨3, ![1, 1024, 256]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩
abbrev S4x2048x2048 : Shape := ⟨3, ![4, 2048, 2048]⟩
abbrev S32x1x256 : Shape := ⟨3, ![32, 1, 256]⟩
abbrev S1x1024x2048 : Shape := ⟨3, ![1, 1024, 2048]⟩
abbrev S1x256x2048 : Shape := ⟨3, ![1, 256, 2048]⟩
abbrev S1x1x256 : Shape := ⟨3, ![1, 1, 256]⟩
abbrev S1024x2048 : Shape := ⟨2, ![1024, 2048]⟩
abbrev S256x2048 : Shape := ⟨2, ![256, 2048]⟩
abbrev S2048x256 : Shape := ⟨2, ![2048, 256]⟩
abbrev S1x256 : Shape := ⟨2, ![1, 256]⟩
abbrev S512x256 : Shape := ⟨2, ![512, 256]⟩
abbrev S256x256 : Shape := ⟨2, ![256, 256]⟩
abbrev S128x256 : Shape := ⟨2, ![128, 256]⟩
abbrev S64x256 : Shape := ⟨2, ![64, 256]⟩
abbrev S32x256 : Shape := ⟨2, ![32, 256]⟩
abbrev S16x256 : Shape := ⟨2, ![16, 256]⟩
abbrev S8x256 : Shape := ⟨2, ![8, 256]⟩
abbrev S4x2048 : Shape := ⟨2, ![4, 2048]⟩
abbrev S1x2048x1024 : Shape := ⟨3, ![1, 2048, 1024]⟩
abbrev S1x1x1024 : Shape := ⟨3, ![1, 1, 1024]⟩
abbrev S2048x1024 : Shape := ⟨2, ![2048, 1024]⟩

abbrev nBuf : Space → Nat
  | .hbm => 44
  | .vmem => 39
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1x1024x1024, .f32⟩
  | .hbm, ⟨17, _⟩ => ⟨S1x1024x1024, .f32⟩
  | .hbm, ⟨18, _⟩ => ⟨S1x1024x1024, .f32⟩
  | .hbm, ⟨19, _⟩ => ⟨S1x1024x1024, .f32⟩
  | .hbm, ⟨20, _⟩ => ⟨S4x1024x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S4x1024, .f32⟩
  | .hbm, ⟨26, _⟩ => ⟨S4x1x1024, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S4x1024, .f32⟩
  | .hbm, ⟨32, _⟩ => ⟨S4x1x1024, .f32⟩
  | .hbm, ⟨33, _⟩ => ⟨S1024x1024, .bf16⟩
  | .hbm, ⟨34, _⟩ => ⟨S4x1024x1024, .bf16⟩
  | .hbm, ⟨35, _⟩ => ⟨S4x2048x1024, .f32⟩
  | .hbm, ⟨36, _⟩ => ⟨S4x1024x2048, .f32⟩
  | .hbm, ⟨37, _⟩ => ⟨S4x2048x1024, .bf16⟩
  | .hbm, ⟨38, _⟩ => ⟨S4x2048x2048, .f32⟩
  | .hbm, ⟨39, _⟩ => ⟨S32x1x256, .f32⟩
  | .hbm, ⟨40, _⟩ => ⟨S4x2048, .f32⟩
  | .hbm, ⟨41, _⟩ => ⟨S32x1x256, .f32⟩
  | .hbm, ⟨42, _⟩ => ⟨S4x2048x1024, .bf16⟩
  | .hbm, ⟨43, _⟩ => ⟨S4x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x256x1024, .f32⟩
  | .local _ .vmem, ⟨8, _⟩ => ⟨S1x256x1024, .f32⟩
  | .local _ .vmem, ⟨9, _⟩ => ⟨S1x1024x256, .f32⟩
  | .local _ .vmem, ⟨10, _⟩ => ⟨S1x1024x256, .f32⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .f32⟩
  | .local _ .vmem, ⟨14, _⟩ => ⟨S1x256x1024, .f32⟩
  | .local _ .vmem, ⟨15, _⟩ => ⟨S1x1024x2048, .f32⟩
  | .local _ .vmem, ⟨16, _⟩ => ⟨S1x1024x2048, .f32⟩
  | .local _ .vmem, ⟨17, _⟩ => ⟨S1x256x2048, .f32⟩
  | .local _ .vmem, ⟨18, _⟩ => ⟨S1x256x2048, .f32⟩
  | .local _ .vmem, ⟨19, _⟩ => ⟨S1x1x256, .f32⟩
  | .local _ .vmem, ⟨20, _⟩ => ⟨S1x1x256, .f32⟩
  | .local _ .vmem, ⟨21, _⟩ => ⟨S1x256x2048, .f32⟩
  | .local _ .vmem, ⟨22, _⟩ => ⟨S1x256x2048, .f32⟩
  | .local _ .vmem, ⟨23, _⟩ => ⟨S1x1x256, .f32⟩
  | .local _ .vmem, ⟨24, _⟩ => ⟨S1x1x256, .f32⟩
  | .local _ .vmem, ⟨25, _⟩ => ⟨S1x2048x1024, .bf16⟩
  | .local _ .vmem, ⟨26, _⟩ => ⟨S1x2048x1024, .bf16⟩
  | .local _ .vmem, ⟨27, _⟩ => ⟨S1x1x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1x1024, .f32⟩
  | .local _ .vmem, ⟨31, _⟩ => ⟨S1x256x1024, .bf16⟩
  | .local _ .vmem, ⟨32, _⟩ => ⟨S1x256x1024, .bf16⟩
  | .local _ .vmem, ⟨33, _⟩ => ⟨S1x256x2048, .f32⟩
  | .local _ .vmem, ⟨34, _⟩ => ⟨S1x256x2048, .f32⟩
  | .local _ .vmem, ⟨35, _⟩ => ⟨S1x2048x1024, .bf16⟩
  | .local _ .vmem, ⟨36, _⟩ => ⟨S1x2048x1024, .bf16⟩
  | .local _ .vmem, ⟨37, _⟩ => ⟨S1x256x1024, .f32⟩
  | .local _ .vmem, ⟨38, _⟩ => ⟨S1x256x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_v19_2 : Ref sig .tc := ⟨.hbm, 37, rfl⟩
abbrev main_v20_0 : Ref sig .tc := ⟨.hbm, 38, rfl⟩
abbrev main_v20_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 8], ![false, false]⟩

@[reducible] def k1_t1_loop : Scf.Loop 32 :=
  let c0_i32 : BitVec 32 := 0#32
  let c19_i32 : BitVec 32 := 19#32
  let v12 : BitVec 32 := Scalar.addi c0_i32 c19_i32
  let c1_i32 : BitVec 32 := 1#32
  ⟨c0_i32, v12, c1_i32⟩
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x1x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1x1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x256x1024 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev grid3 : Pipeline.Grid := ⟨2, ![4, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S4x1024x2048 : Shape := ⟨3, ![4, 1024, 2048]⟩
abbrev S4x2048x2048 : Shape := ⟨3, ![4, 2048, 2048]⟩
abbrev S4x2048x49 : Shape := ⟨3, ![4, 2048, 49]⟩
abbrev S4 : Shape := ⟨1, ![4]⟩
abbrev S4x1x1 : Shape := ⟨3, ![4, 1, 1]⟩
abbrev S2048 : Shape := ⟨1, ![2048]⟩
abbrev S1x2048x1 : Shape := ⟨3, ![1, 2048, 1]⟩
abbrev S4x2048x49x1 : Shape := ⟨4, ![4, 2048, 49, 1]⟩
abbrev S4x2048x49x3 : Shape := ⟨4, ![4, 2048, 49, 3]⟩
abbrev S1x2048x1024 : Shape := ⟨3, ![1, 2048, 1024]⟩
abbrev S2048x1024 : Shape := ⟨2, ![2048, 1024]⟩
abbrev S1x2048x2048 : Shape := ⟨3, ![1, 2048, 2048]⟩
abbrev S2048x2048 : Shape := ⟨2, ![2048, 2048]⟩
abbrev S2048x1 : Shape := ⟨2, ![2048, 1]⟩
abbrev S1x1024 : Shape := ⟨2, ![1, 1024]⟩

abbrev nBuf : Space → Nat
  | .hbm => 255
  | .vmem => 0
  | .smem => 0
  | _ => 0

abbrev hbmTy0_0 (i : Nat) : BufTy := match i % 128 with
  | 0 => ⟨S4x2048x1024, .f32⟩
  | 1 => ⟨S1024x1024, .f32⟩
  | 2 => ⟨S1024x1024, .f32⟩
  | 3 => ⟨S1024x1024, .f32⟩
  | 4 => ⟨S1024x1024, .f32⟩
  | 5 => ⟨S1024x1024, .f32⟩
  | 6 => ⟨S1024x1024, .f32⟩
  | 7 => ⟨S1024x1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S4x2048x1024, .f32⟩
  | 17 => ⟨S4x2048x1024, .f32⟩
  | 18 => ⟨S_, .f32⟩
  | 19 => ⟨S4x2048, .f32⟩
  | 20 => ⟨S4x2048x1, .f32⟩
  | 21 => ⟨S4x2048x1, .f32⟩
  | 22 => ⟨S_, .f32⟩
  | 23 => ⟨S4x2048x1, .f32⟩
  | 24 => ⟨S4x2048x1, .f32⟩
  | 25 => ⟨S4x2048x1024, .f32⟩
  | 26 => ⟨S4x2048x1024, .f32⟩
  | 27 => ⟨S4x2048x1024, .f32⟩
  | 28 => ⟨S4x2048x1024, .f32⟩
  | 29 => ⟨S_, .f32⟩
  | 30 => ⟨S4x2048, .f32⟩
  | 31 => ⟨S4x2048x1, .f32⟩
  | 32 => ⟨S4x2048x1, .f32⟩
  | 33 => ⟨S_, .f32⟩
  | 34 => ⟨S4x2048x1, .f32⟩
  | 35 => ⟨S4x2048x1, .f32⟩
  | 36 => ⟨S4x2048x1024, .f32⟩
  | 37 => ⟨S4x2048x1024, .f32⟩
  | 38 => ⟨S4x2048x1024, .f32⟩
  | 39 => ⟨S4x1024x2048, .f32⟩
  | 40 => ⟨S4x2048x2048, .f32⟩
  | 41 => ⟨S_, .f32⟩
  | 42 => ⟨S4x2048x2048, .f32⟩
  | 43 => ⟨S4x2048x2048, .f32⟩
  | 44 => ⟨S4x2048x49, .f32⟩
  | 45 => ⟨S4x2048x49, .i32⟩
  | 46 => ⟨S4, .i32⟩
  | 47 => ⟨S4x1x1, .i32⟩
  | 48 => ⟨S2048, .i32⟩
  | 49 => ⟨S1x2048x1, .i32⟩
  | 50 => ⟨S_, .f32⟩
  | 51 => ⟨S4x2048x2048, .f32⟩
  | 52 => ⟨S_, .i32⟩
  | 53 => ⟨S4x1x1, .i32⟩
  | 54 => ⟨S4x1x1, .i1⟩
  | 55 => ⟨S_, .i32⟩
  | 56 => ⟨S4x1x1, .i32⟩
  | 57 => ⟨S4x1x1, .i32⟩
  | 58 => ⟨S4x1x1, .i32⟩
  | 59 => ⟨S_, .i32⟩
  | 60 => ⟨S1x2048x1, .i32⟩
  | 61 => ⟨S1x2048x1, .i1⟩
  | 62 => ⟨S_, .i32⟩
  | 63 => ⟨S1x2048x1, .i32⟩
  | 64 => ⟨S1x2048x1, .i32⟩
  | 65 => ⟨S1x2048x1, .i32⟩
  | 66 => ⟨S_, .i32⟩
  | 67 => ⟨S4x2048x49, .i32⟩
  | 68 => ⟨S4x2048x49, .i1⟩
  | 69 => ⟨S_, .i32⟩
  | 70 => ⟨S4x2048x49, .i32⟩
  | 71 => ⟨S4x2048x49, .i32⟩
  | 72 => ⟨S4x2048x49, .i32⟩
  | 73 => ⟨S4x2048x49, .i32⟩
  | 74 => ⟨S4x2048x49, .i32⟩
  | 75 => ⟨S4x2048x49x1, .i32⟩
  | 76 => ⟨S4x2048x49x1, .i32⟩
  | 77 => ⟨S4x2048x49x1, .i32⟩
  | 78 => ⟨S4x2048x49x3, .i32⟩
  | 79 => ⟨S4x2048x2048, .f32⟩
  | 80 => ⟨S1x2048x1024, .f32⟩
  | 81 => ⟨S2048x1024, .f32⟩
  | 82 => ⟨S2048x1024, .f32⟩
  | 83 => ⟨S1x2048x2048, .f32⟩
  | 84 => ⟨S2048x2048, .f32⟩
  | 85 => ⟨S2048x1024, .f32⟩
  | 86 => ⟨S_, .f32⟩
  | 87 => ⟨S2048, .f32⟩
  | 88 => ⟨S2048x1, .f32⟩
  | 89 => ⟨S_, .f32⟩
  | 90 => ⟨S2048x1, .f32⟩
  | 91 => ⟨S2048x1, .f32⟩
  | 92 => ⟨S2048x1024, .f32⟩
  | 93 => ⟨S2048x1024, .f32⟩
  | 94 => ⟨S2048x1024, .f32⟩
  | 95 => ⟨S_, .f32⟩
  | 96 => ⟨S2048, .f32⟩
  | 97 => ⟨S2048x1, .f32⟩
  | 98 => ⟨S_, .f32⟩
  | 99 => ⟨S2048x1, .f32⟩
  | 100 => ⟨S2048x1, .f32⟩
  | 101 => ⟨S2048x1024, .f32⟩
  | 102 => ⟨S2048x1024, .f32⟩
  | 103 => ⟨S_, .f32⟩
  | 104 => ⟨S2048x1, .f32⟩
  | 105 => ⟨S2048x1, .f32⟩
  | 106 => ⟨S2048x1, .f32⟩
  | 107 => ⟨S2048x1024, .f32⟩
  | 108 => ⟨S2048x1024, .f32⟩
  | 109 => ⟨S1x1024, .f32⟩
  | 110 => ⟨S2048x1024, .f32⟩
  | 111 => ⟨S2048x1024, .f32⟩
  | 112 => ⟨S1x1024, .f32⟩
  | 113 => ⟨S2048x1024, .f32⟩
  | 114 => ⟨S2048x1024, .f32⟩
  | 115 => ⟨S_, .f32⟩
  | 116 => ⟨S2048x1024, .f32⟩
  | 117 => ⟨S2048x1024, .f32⟩
  | 118 => ⟨S1x2048x1024, .f32⟩
  | 119 => ⟨S2048x1024, .f32⟩
  | 120 => ⟨S2048x1024, .f32⟩
  | 121 => ⟨S1x2048x2048, .f32⟩
  | 122 => ⟨S2048x2048, .f32⟩
  | 123 => ⟨S2048x1024, .f32⟩
  | 124 => ⟨S_, .f32⟩
  | 125 => ⟨S2048, .f32⟩
  | 126 => ⟨S2048x1, .f32⟩
  | 127 => ⟨S_, .f32⟩
  | _ => ⟨S4x2048x1024, .f32⟩

abbrev hbmTy0_1 (i : Nat) : BufTy := match i % 128 with
  | 0 => ⟨S2048x1, .f32⟩
  | 1 => ⟨S2048x1, .f32⟩
  | 2 => ⟨S2048x1024, .f32⟩
  | 3 => ⟨S2048x1024, .f32⟩
  | 4 => ⟨S2048x1024, .f32⟩
  | 5 => ⟨S_, .f32⟩
  | 6 => ⟨S2048, .f32⟩
  | 7 => ⟨S2048x1, .f32⟩
  | 8 => ⟨S_, .f32⟩
  | 9 => ⟨S2048x1, .f32⟩
  | 10 => ⟨S2048x1, .f32⟩
  | 11 => ⟨S2048x1024, .f32⟩
  | 12 => ⟨S2048x1024, .f32⟩
  | 13 => ⟨S_, .f32⟩
  | 14 => ⟨S2048x1, .f32⟩
  | 15 => ⟨S2048x1, .f32⟩
  | 16 => ⟨S2048x1, .f32⟩
  | 17 => ⟨S2048x1024, .f32⟩
  | 18 => ⟨S2048x1024, .f32⟩
  | 19 => ⟨S1x1024, .f32⟩
  | 20 => ⟨S2048x1024, .f32⟩
  | 21 => ⟨S2048x1024, .f32⟩
  | 22 => ⟨S1x1024, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | 28 => ⟨S1x2048x1024, .f32⟩
  | 29 => ⟨S2048x1024, .f32⟩
  | 30 => ⟨S2048x1024, .f32⟩
  | 31 => ⟨S1x2048x2048, .f32⟩
  | 32 => ⟨S2048x2048, .f32⟩
  | 33 => ⟨S2048x1024, .f32⟩
  | 34 => ⟨S_, .f32⟩
  | 35 => ⟨S2048, .f32⟩
  | 36 => ⟨S2048x1, .f32⟩
  | 37 => ⟨S_, .f32⟩
  | 38 => ⟨S2048x1, .f32⟩
  | 39 => ⟨S2048x1, .f32⟩
  | 40 => ⟨S2048x1024, .f32⟩
  | 41 => ⟨S2048x1024, .f32⟩
  | 42 => ⟨S2048x1024, .f32⟩
  | 43 => ⟨S_, .f32⟩
  | 44 => ⟨S2048, .f32⟩
  | 45 => ⟨S2048x1, .f32⟩
  | 46 => ⟨S_, .f32⟩
  | 47 => ⟨S2048x1, .f32⟩
  | 48 => ⟨S2048x1, .f32⟩
  | 49 => ⟨S2048x1024, .f32⟩
  | 50 => ⟨S2048x1024, .f32⟩
  | 51 => ⟨S_, .f32⟩
  | 52 => ⟨S2048x1, .f32⟩
  | 53 => ⟨S2048x1, .f32⟩
  | 54 => ⟨S2048x1, .f32⟩
  | 55 => ⟨S2048x1024, .f32⟩
  | 56 => ⟨S2048x1024, .f32⟩
  | 57 => ⟨S1x1024, .f32⟩
  | 58 => ⟨S2048x1024, .f32⟩
  | 59 => ⟨S2048x1024, .f32⟩
  | 60 => ⟨S1x1024, .f32⟩
  | 61 => ⟨S2048x1024, .f32⟩
  | 62 => ⟨S2048x1024, .f32⟩
  | 63 => ⟨S_, .f32⟩
  | 64 => ⟨S2048x1024, .f32⟩
  | 65 => ⟨S2048x1024, .f32⟩
  | 66 => ⟨S1x2048x1024, .f32⟩
  | 67 => ⟨S2048x1024, .f32⟩
  | 68 => ⟨S2048x1024, .f32⟩
  | 69 => ⟨S1x2048x2048, .f32⟩
  | 70 => ⟨S2048x2048, .f32⟩
  | 71 => ⟨S2048x1024, .f32⟩
  | 72 => ⟨S_, .f32⟩
  | 73 => ⟨S2048, .f32⟩
  | 74 => ⟨S2048x1, .f32⟩
  | 75 => ⟨S_, .f32⟩
  | 76 => ⟨S2048x1, .f32⟩
  | 77 => ⟨S2048x1, .f32⟩
  | 78 => ⟨S2048x1024, .f32⟩
  | 79 => ⟨S2048x1024, .f32⟩
  | 80 => ⟨S2048x1024, .f32⟩
  | 81 => ⟨S_, .f32⟩
  | 82 => ⟨S2048, .f32⟩
  | 83 => ⟨S2048x1, .f32⟩
  | 84 => ⟨S_, .f32⟩
  | 85 => ⟨S2048x1, .f32⟩
  | 86 => ⟨S2048x1, .f32⟩
  | 87 => ⟨S2048x1024, .f32⟩
  | 88 => ⟨S2048x1024, .f32⟩
  | 89 => ⟨S_, .f32⟩
  | 90 => ⟨S2048x1, .f32⟩
  | 91 => ⟨S2048x1, .f32⟩
  | 92 => ⟨S2048x1, .f32⟩
  | 93 => ⟨S2048x1024, .f32⟩
  | 94 => ⟨S2048x1024, .f32⟩
  | 95 => ⟨S1x1024, .f32⟩
  | 96 => ⟨S2048x1024, .f32⟩
  | 97 => ⟨S2048x1024, .f32⟩
  | 98 => ⟨S1x1024, .f32⟩
  | 99 => ⟨S2048x1024, .f32⟩
  | 100 => ⟨S2048x1024, .f32⟩
  | 101 => ⟨S_, .f32⟩
  | 102 => ⟨S2048x1024, .f32⟩
  | 103 => ⟨S2048x1024, .f32⟩
  | 104 => ⟨S1x2048x1024, .f32⟩
  | 105 => ⟨S1x2048x1024, .f32⟩
  | 106 => ⟨S1x2048x1024, .f32⟩
  | 107 => ⟨S1x2048x1024, .f32⟩
  | 108 => ⟨S4x2048x1024, .f32⟩
  | 109 => ⟨S_, .f32⟩
  | 110 => ⟨S4x2048x2048, .f32⟩
  | 111 => ⟨S4x2048x2048, .f32⟩
  | 112 => ⟨S_, .f32⟩
  | 113 => ⟨S4x2048, .f32⟩
  | 114 => ⟨S_, .f32⟩
  | 115 => ⟨S4x2048, .f32⟩
  | 116 => ⟨S4x2048, .f32⟩
  | 117 => ⟨S4x2048x1, .f32⟩
  | 118 => ⟨S4x2048x2048, .f32⟩
  | 119 => ⟨S4x2048x2048, .f32⟩
  | 120 => ⟨S4x2048x2048, .f32⟩
  | 121 => ⟨S_, .f32⟩
  | 122 => ⟨S4x2048, .f32⟩
  | 123 => ⟨S4x2048x1, .f32⟩
  | 124 => ⟨S4x2048x2048, .f32⟩
  | 125 => ⟨S4x2048x2048, .f32⟩
  | 126 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_values : Ref sig .tc := ⟨.hbm, 44, rfl⟩
abbrev main_indices : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_c : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_c_6 : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_8 : Ref sig .tc := ⟨.hbm, 66, rfl⟩
abbrev main_v38 : Ref sig .tc := ⟨.hbm, 67, rfl⟩
abbrev main_v39 : Ref sig .tc := ⟨.hbm, 68, rfl⟩
abbrev main_c_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_cst_13 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call0_cst : Ref sig .tc := ⟨.hbm, 115, rfl⟩
abbrev main_call0_v0 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_15 : Ref sig .tc := ⟨.hbm, 124, rfl⟩
abbrev main_v87 : Ref sig .tc := ⟨.hbm, 125, rfl⟩
abbrev main_v88 : Ref sig .tc := ⟨.hbm, 126, rfl⟩
abbrev main_cst_16 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_17 : Ref sig .tc := ⟨.hbm, 133, rfl⟩
abbrev main_v94 : Ref sig .tc := ⟨.hbm, 134, rfl⟩
abbrev main_v95 : Ref sig .tc := ⟨.hbm, 135, rfl⟩
abbrev main_cst_18 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_19 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_call1_cst : Ref sig .tc := ⟨.hbm, 153, rfl⟩
abbrev main_call1_v0 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_20 : Ref sig .tc := ⟨.hbm, 162, rfl⟩
abbrev main_v118 : Ref sig .tc := ⟨.hbm, 163, rfl⟩
abbrev main_v119 : Ref sig .tc := ⟨.hbm, 164, rfl⟩
abbrev main_cst_21 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_22 : Ref sig .tc := ⟨.hbm, 171, rfl⟩
abbrev main_v125 : Ref sig .tc := ⟨.hbm, 172, rfl⟩
abbrev main_v126 : Ref sig .tc := ⟨.hbm, 173, rfl⟩
abbrev main_cst_23 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_24 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_call2_cst : Ref sig .tc := ⟨.hbm, 191, rfl⟩
abbrev main_call2_v0 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_25 : Ref sig .tc := ⟨.hbm, 200, rfl⟩
abbrev main_v149 : Ref sig .tc := ⟨.hbm, 201, rfl⟩
abbrev main_v150 : Ref sig .tc := ⟨.hbm, 202, rfl⟩
abbrev main_cst_26 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_cst_27 : Ref sig .tc := ⟨.hbm, 209, rfl⟩
abbrev main_v156 : Ref sig .tc := ⟨.hbm, 210, rfl⟩
abbrev main_v157 : Ref sig .tc := ⟨.hbm, 211, rfl⟩
abbrev main_cst_28 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_cst_29 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_call3_cst : Ref sig .tc := ⟨.hbm, 229, rfl⟩
abbrev main_call3_v0 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_cst_30 : Ref sig .tc := ⟨.hbm, 237, rfl⟩
abbrev main_v179 : Ref sig .tc := ⟨.hbm, 238, rfl⟩
abbrev main_v180 : Ref sig .tc := ⟨.hbm, 239, rfl⟩
abbrev main_cst_31 : Ref sig .tc := ⟨.hbm, 240, rfl⟩
abbrev main_v181 : Ref sig .tc := ⟨.hbm, 241, rfl⟩
abbrev main_cst_32 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_cst_33 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩

abbrev nD : Nat := 1
abbrev τ : Topo := Topo.v7x

variable {F : FTy → Type} [FloatOps F]
-- ==== Proof.Spec.lean ====
/-
  The mathematics both programs compute, on rows and matrices of extended reals, free of tiles, grids and formats.
  Everything is stated on functions of coordinates: a row is a function of its column, a matrix one of row and column.
-/
module

public import Idealize.ShloMosaic.Lib.Pointwise

@[expose] public section

noncomputable section

open Idealize.ShloMosaic

namespace Cert.Spec

/-- The entry at column `j` of the row `x` times the matrix `w`. -/
def proj {n p : ℕ} (x : Fin n → EReal) (w : Fin n → Fin p → EReal) (j : Fin p) : EReal := ∑ k, x k * w k j

/-- The divisor of a row: its Euclidean length, at least the small constant. -/
def len {n : ℕ} (v : Fin n → EReal) : EReal :=
  max (Ideal.sqrt (∑ l, v l * v l)) (Ideal.ofBits .f32 0x2B8CBCCC#32)

/-- A row divided by its length. -/
def unit {n : ℕ} (v : Fin n → EReal) (j : Fin n) : EReal := Ideal.div (v j) (len v)

/-- The scaled inner product of two rows. -/
def score {n : ℕ} (q k : Fin n → EReal) : EReal := (∑ l, q l * k l) * Ideal.ofBits .f32 0x3D000000#32

/-- How many entries of the row are at least `x`, as an extended real. -/
def count {n : ℕ} (d : Fin n → EReal) (x : EReal) : EReal := ∑ t, if x ≤ d t then 1 else 0

/-- The middle of an interval, as the half of the sum of its ends. -/
def mid (p : EReal × EReal) : EReal := Ideal.ofBits .f32 0x3F000000#32 * (p.1 + p.2)

/-- One halving of the interval: keep the upper half when at least 49 entries reach the middle, else the lower. -/
def halve {n : ℕ} (d : Fin n → EReal) (p : EReal × EReal) : EReal × EReal :=
  if Ideal.ofBits .f32 0x42440000#32 ≤ count d (mid p) then (mid p, p.2) else (p.1, mid p)

/-- The interval after `n` halvings of the one the search starts from. -/
def bisect {k : ℕ} (d : Fin k → EReal) (n : ℕ) : EReal × EReal :=
  (halve d)^[n] (Ideal.ofBits .f32 0xBD0147AE#32, Ideal.ofBits .f32 0x3D0147AE#32)

/-- The threshold of a row: the lower end after 19 halvings. -/
def thr {k : ℕ} (d : Fin k → EReal) : EReal := (bisect d 19).1

/-- The row kept where it reaches `x`, zero elsewhere. -/
def keep {n : ℕ} (d : Fin n → EReal) (x : EReal) (t : Fin n) : EReal := if x ≤ d t then d t else 0

/-- The mean of a row of 1024 entries. -/
def mean {n : ℕ} (y : Fin n → EReal) : EReal := Ideal.div (∑ l, y l) (Ideal.ofBits .f32 0x44800000#32)

/-- The standard deviation of a row, the small constant added under the root. -/
def dev {n : ℕ} (y : Fin n → EReal) : EReal :=
  Ideal.sqrt (Ideal.div (∑ l, (y l - mean y) * (y l - mean y)) (Ideal.ofBits .f32 0x44800000#32)
    + Ideal.ofBits .f32 0x3727C5AC#32)

/-- The layer norm of a row with gain `g` and bias `b`, negative entries cut to zero. -/
def layer {n : ℕ} (y g b : Fin n → EReal) (j : Fin n) : EReal :=
  max (Ideal.div (y j - mean y) (dev y) * g j + b j) 0

/-- The largest entry of the scaled row. -/
def top {n : ℕ} (d : Fin n → EReal) : EReal :=
  Finset.univ.fold max (Ideal.ofBits .f32 0xFF800000#32) fun t => d t * Ideal.ofBits .f32 0x3D000000#32

/-- An entry of the scaled row, the largest one subtracted, exponentiated. -/
def expo {n : ℕ} (d : Fin n → EReal) (t : Fin n) : EReal :=
  Ideal.exp (d t * Ideal.ofBits .f32 0x3D000000#32 - top d)

/-- The softmax of the scaled row. -/
def soft {n : ℕ} (d : Fin n → EReal) (t : Fin n) : EReal := Ideal.div (expo d t) (∑ x, expo d x)

end Cert.Spec

end
-- ==== Proof.TopK.lean ====
/-
  The 49 largest entries of a row, as a map from ranks to positions, and the matrix the reference scatters them into.
-/
module

public import proofs.«01_k».proof.Proof.Spec
public import Idealize.ShloMosaic.Lib.SortFacts
public import Idealize.ShloMosaic.Lib.Routing.OpsPair

@[expose] public section

noncomputable section

namespace Cert.Spec

open Idealize.ShloMosaic

/-- The position of each rank of a row, largest entry first. -/
def ranked {n : ℕ} (d : Fin n → EReal) : Fin n → Fin n := sortedFrom fun a b => Ideal.cmpTotal .gt (d a) (d b) == 1#1

/-- Different ranks have different positions. -/
theorem ranked_injective {n : ℕ} (d : Fin n → EReal) : Function.Injective (ranked d) := sortedFrom_injective _

/-- The comparison holds when the second entry is smaller. -/
theorem cmp_iff (x y : EReal) : (Ideal.cmpTotal .gt x y == 1#1) = decide (y < x) := by
  show (BitVec.ofBool (decide (y < x)) == 1#1) = _
  cases decide (y < x) <;> rfl

/-- The entries descend with the rank. -/
theorem ranked_anti {n : ℕ} (d : Fin n → EReal) (i j : Fin n) (h : i ≤ j) : d (ranked d j) ≤ d (ranked d i) := by
  rcases h.lt_or_eq with h | rfl
  · have := sortedFrom_noInversion (fun a b => Ideal.cmpTotal .gt (d a) (d b) == 1#1)
      (fun a b => Ideal.cmpTotal .gt (d a) (d b) == 1#1) (fun a b => by
        simp only [cmp_iff, decide_eq_true_eq, decide_eq_false_iff_not]; exact fun h => h.not_gt) (fun a b h => h)
      (fun a b c => by
        simp only [cmp_iff, decide_eq_false_iff_not, not_lt]; exact fun h h' => h.trans h') i j h
    rw [cmp_iff, decide_eq_false_iff_not, not_lt] at this
    exact this
  · exact le_rfl

/-- Putting a coordinate on the last of three axes. -/
theorem along_last {A B n : ℕ} (j : (⟨3, ![A, B, n]⟩ : Shape).Idx) (t : Fin n) :
    j.along (2 : Fin 3) t = ix3 (j 0) (j 1) t := by
  funext a
  match a with
  | ⟨0, _⟩ => rfl
  | ⟨1, _⟩ => rfl
  | ⟨2, _⟩ => rfl

/-- A slice of the first `k` places along the last of three axes, read at an index. -/
theorem slice_last {α : Type} {A B n k : ℕ} (x : (⟨3, ![A, B, n]⟩ : Shape).Idx → α)
    (h : (⟨3, ![A, B, n]⟩ : Shape).Slices (fun _ => 0) ⟨3, ![A, B, k]⟩) (hk : k ≤ n) (a : Fin A) (b : Fin B) (r : Fin k) :
    extractStridedSlice ⟨3, ![A, B, k]⟩ (fun _ => 0) x h (ix3 a b r) = x (ix3 a b (Fin.castLE hk r)) := by
  unfold extractStridedSlice
  refine congrArg x (funext fun c => Fin.ext ?_)
  match c with
  | ⟨0, _⟩ => exact Nat.zero_add _
  | ⟨1, _⟩ => exact Nat.zero_add _
  | ⟨2, _⟩ => exact Nat.zero_add _

/-- A sort of two arrays along the last of three axes, read at an index. -/
theorem sort_last {α β : Type} {A B n : ℕ} (cmp : α × β → α × β → BitVec 1) (x : (⟨3, ![A, B, n]⟩ : Shape).Idx → α)
    (y : (⟨3, ![A, B, n]⟩ : Shape).Idx → β) (a : Fin A) (b : Fin B) (r : Fin n) :
    let π := sortedFrom (fun u v => cmp (x (ix3 a b u), y (ix3 a b u)) (x (ix3 a b v), y (ix3 a b v)) == 1#1)
    (Host.sort2 ⟨3, ![A, B, n]⟩ 2 cmp x y).1 (ix3 a b r) = x (ix3 a b (π r)) ∧
      (Host.sort2 ⟨3, ![A, B, n]⟩ 2 cmp x y).2 (ix3 a b r) = y (ix3 a b (π r)) := by
  intro π
  have e : ∀ u, (ix3 a b r : (⟨3, ![A, B, n]⟩ : Shape).Idx).along (2 : Fin 3) u = ix3 a b u := along_last _
  have hπ : sortedFrom (fun u v => cmp (x ((ix3 a b r : (⟨3, ![A, B, n]⟩ : Shape).Idx).along (2 : Fin 3) u),
      y ((ix3 a b r : (⟨3, ![A, B, n]⟩ : Shape).Idx).along (2 : Fin 3) u))
      (x ((ix3 a b r : (⟨3, ![A, B, n]⟩ : Shape).Idx).along (2 : Fin 3) v),
      y ((ix3 a b r : (⟨3, ![A, B, n]⟩ : Shape).Idx).along (2 : Fin 3) v)) == 1#1) = π := by
    simp only [e]; rfl
  unfold Host.sort2
  rw [dif_pos (by decide : 2 < 3)]
  exact ⟨congrArg x ((congrArg _ (congrFun hπ r)).trans (e _)), congrArg y ((congrArg _ (congrFun hπ r)).trans (e _))⟩

/-- The values of a top-k along the last of three axes. -/
theorem topK_value {A B n k : ℕ} (D : FVec Ideal ⟨3, ![A, B, n]⟩ .f32)
    (h : (⟨3, ![A, B, n]⟩ : Shape).Slices (fun _ => 0) ⟨3, ![A, B, k]⟩) (hk : k ≤ n) (a : Fin A) (b : Fin B) (r : Fin k) :
    (Host.topK ⟨3, ![A, B, k]⟩ 2 (FloatOps.cmpfTotal .gt) D h).1 (ix3 a b r)
      = D (ix3 a b (ranked (fun t => D (ix3 a b t)) (Fin.castLE hk r))) :=
  (slice_last _ h hk a b r).trans (sort_last (fun l r => FloatOps.cmpfTotal (F := Ideal) .gt l.1 r.1) D
    (fun i => if hd : 2 < 3 then iotaInDim ⟨3, ![A, B, n]⟩ 32 ⟨2, hd⟩ i else 0#32) a b (Fin.castLE hk r)).1

/-- The positions of a top-k along the last of three axes. -/
theorem topK_index {A B n k : ℕ} (D : FVec Ideal ⟨3, ![A, B, n]⟩ .f32)
    (h : (⟨3, ![A, B, n]⟩ : Shape).Slices (fun _ => 0) ⟨3, ![A, B, k]⟩) (hk : k ≤ n) (a : Fin A) (b : Fin B) (r : Fin k) :
    (Host.topK ⟨3, ![A, B, k]⟩ 2 (FloatOps.cmpfTotal .gt) D h).2 (ix3 a b r)
      = BitVec.ofNat 32 (ranked (fun t => D (ix3 a b t)) (Fin.castLE hk r)).val :=
  (slice_last _ h hk a b r).trans (sort_last (fun l r => FloatOps.cmpfTotal (F := Ideal) .gt l.1 r.1) D
    (fun i => if hd : 2 < 3 then iotaInDim ⟨3, ![A, B, n]⟩ 32 ⟨2, hd⟩ i else 0#32) a b (Fin.castLE hk r)).2

/-- Two choices between the same values under equivalent conditions, however the conditions are decided. -/
theorem ite_iff {α : Type} {p q : Prop} {hp : Decidable p} {hq : Decidable q} (h : p ↔ q) (a b : α) :
    @ite α p hp a b = @ite α q hq a b := by
  by_cases hp' : p
  · rw [if_pos hp', if_pos (h.1 hp')]
  · rw [if_neg hp', if_neg fun hq' => hp' (h.2 hq')]

/-- Writing updates that all carry the value `v` wherever they land gives `v` where one lands, the old value
    elsewhere. -/
theorem foldl_put {ι α : Type} (l : List ι) (p : ι → Prop) [DecidablePred p] (u : ι → α) (v x : α) (h : ∀ n, p n → u n = v) :
    l.foldl (fun a n => if p n then u n else a) x = if ∃ n ∈ l, p n then v else x := by
  classical
  induction l generalizing x with
  | nil => simp
  | cons m l ih =>
    rw [List.foldl_cons, ih]
    by_cases hm : p m
    · simp [hm, h m hm]
    · simp [hm]

end Cert.Spec

end
-- ==== Proof.Scatter.lean ====
/-
  The matrix the reference scatters the largest entries into, read at an index.
-/
module

public import proofs.«01_k».proof.Proof.TopK
public import proofs.«01_k».proof.Proof.Gen.ReferenceIdeal.Run

@[expose] public section

set_option maxRecDepth 16384

noncomputable section

namespace Cert.ReferenceIdeal.Value

open Cert.ReferenceIdeal Cert.ReferenceIdeal.Gen Idealize.ShloMosaic Idealize.ShloMosaic.TcCoe Cert.Spec

/-- The scatter of the reference. -/
abbrev put := scatter_S4x2048x2048_S4x2048x49x3_S4x2048x49_n_012_012_3

/-- Update `(b, s, r)` lands at `(b', s', t)` exactly when its three index words, read signed, are those coordinates. -/
theorem put_lands (idx : IVec S4x2048x49x3 32) (b : Fin 4) (s : Fin 2048) (r : Fin 49) (b' : Fin 4) (s' t : Fin 2048) :
    put.resultIdx? (ix3 b s r) idx = some (ix3 b' s' t) ↔ (idx (ix4 b s r (0 : Fin 3))).toInt = b'.val ∧
      (idx (ix4 b s r (1 : Fin 3))).toInt = s'.val ∧ (idx (ix4 b s r (2 : Fin 3))).toInt = t.val := by
  have hw : ∀ q : Fin 3, put.window (ix3 b s r) q = 0 := fun q => by
    fin_cases q <;> rfl
  have hs : ∀ q : Fin 3, put.start (ix3 b s r) idx q = (idx (ix4 b s r q)).toInt := fun q => by
    have hi : ∀ q : Fin 3, put.siIdx (ix3 b s r) q = ix4 b s r q := fun q => by
      funext a
      fin_cases a <;> fin_cases q <;> rfl
    fin_cases q <;> exact congrArg (fun i => (idx i).toInt) (hi _)
  rw [Routing.resultIdx?_eq_some]
  simp only [hw, hs]
  constructor
  · intro h
    exact ⟨by simpa using h 0, by simpa using h 1, by simpa using h 2⟩
  · rintro ⟨h0, h1, h2⟩ a
    fin_cases a
    · simpa using h0
    · simpa using h1
    · simpa using h2

/-- A small number, wrapped as a possibly negative index, is itself. -/
theorem wrap_ofNat (n : ℕ) (hn : n < 2048) (a : BitVec 32) :
    (Scalar.select (IntOp.cmpi .slt (BitVec.ofNat 32 n) 0#32) a (BitVec.ofNat 32 n)).toInt = n := by
  rw [Routing.wrap_of_lt _ _ (by rw [BitVec.toNat_ofNat]; omega), BitVec.toInt_eq_toNat_cond, BitVec.toNat_ofNat,
    Nat.mod_eq_of_lt (by omega : n < 2 ^ 32), if_pos (by omega)]

/-- The scores of the reference. -/
abbrev scores (V0 : Valuation τ sig (Elt Ideal)) : FVec Ideal S4x2048x2048 .f32 := res_main_v22 V0

/-- The scattered matrix at an index: the score where its position is among the 49 largest of its row, zero elsewhere. -/
theorem scattered (V0 : Valuation τ sig (Elt Ideal)) (b : Fin 4) (s t : Fin 2048) :
    res_main_v49 V0 (ix3 b s t) = if ∃ i : Fin 2048, i.val < 49 ∧ ranked (fun t => scores V0 (ix3 b s t)) i = t
      then scores V0 (ix3 b s t) else 0 := by
  unfold res_main_v49
  generalize hidx : concatenate _ _ _ _ = idx
  have h0 : ∀ (b : Fin 4) (s : Fin 2048) (r : Fin 49), (idx (ix4 b s r (0 : Fin 3))).toInt = b.val := fun b s r => by
    subst hidx
    pointwise [res_main_v24]
    exact wrap_ofNat b.val (by omega) _
  have h1 : ∀ (b : Fin 4) (s : Fin 2048) (r : Fin 49), (idx (ix4 b s r (1 : Fin 3))).toInt = s.val := fun b s r => by
    subst hidx
    pointwise [res_main_v26]
    exact wrap_ofNat s.val s.isLt _
  have h2 : ∀ (b : Fin 4) (s : Fin 2048) (r : Fin 49), (idx (ix4 b s r (2 : Fin 3))).toInt
      = (ranked (fun t => scores V0 (ix3 b s t)) (Fin.castLE (by omega) r)).val := fun b s r => by
    subst hidx
    clear h0 h1
    pointwise [res_main_indices]
    exact (congrArg (fun w => (Scalar.select (IntOp.cmpi .slt w 0#32) (IntOp.addi w 2048#32) w).toInt)
      (topK_index (scores V0) sliceFits_S4x2048x2048_S4x2048x49 (by omega) b s r)).trans
      (wrap_ofNat _ (Fin.isLt _) _)
  have lands : ∀ (b' : Fin 4) (s' : Fin 2048) (r : Fin 49), put.resultIdx? (ix3 b' s' r) idx = some (ix3 b s t) ↔
      b' = b ∧ s' = s ∧ ranked (fun t => scores V0 (ix3 b' s' t)) (Fin.castLE (by omega) r) = t := fun b' s' r => by
    rw [put_lands, h0, h1, h2]
    simp only [Fin.ext_iff, Nat.cast_inj]
  have split : ∀ j : S4x2048x49.Idx, ∃ (b' : Fin 4) (s' : Fin 2048) (r : Fin 49), j = ix3 b' s' r :=
    fun j => ⟨j 0, j 1, j 2, by pointwise⟩
  refine (Routing.scatter_at _ _ _ _ _ _).trans ((foldl_put _ (fun n =>
    put.resultIdx? (S4x2048x49.rowMajor.symm n) idx = some (ix3 b s t)) _ (scores V0 (ix3 b s t)) _ ?_).trans
    ?_)
  · intro n hn
    obtain ⟨b', s', r, hj⟩ := split (S4x2048x49.rowMajor.symm n)
    rw [hj] at hn ⊢
    obtain ⟨rfl, rfl, rfl⟩ := (lands b' s' r).1 hn
    exact topK_value (scores V0) sliceFits_S4x2048x2048_S4x2048x49 (by omega) b' s' r
  · have hz : broadcastInDim S4x2048x2048 ![] bcast_S_S4x2048x2048 (constant (F := Ideal) S_ .f32 0x00000000#32) (ix3 b s t)
        = (0 : EReal) := by pointwise
    rw [hz]
    refine ite_iff ?_ _ _
    constructor
    · rintro ⟨n, -, hn⟩
      obtain ⟨b', s', r, hj⟩ := split (S4x2048x49.rowMajor.symm n)
      rw [hj] at hn
      obtain ⟨rfl, rfl, h⟩ := (lands b' s' r).1 hn
      exact ⟨Fin.castLE (by omega) r, r.isLt, h⟩
    · rintro ⟨i, hi, h⟩
      refine ⟨S4x2048x49.rowMajor (ix3 b s (⟨i.val, hi⟩ : Fin 49)), List.mem_finRange _, ?_⟩
      rw [Equiv.symm_apply_apply]
      exact (lands b s ⟨i.val, hi⟩).2 ⟨rfl, rfl, h⟩

end Cert.ReferenceIdeal.Value

end
-- ==== Proof.RefRows.lean ====
/-
  The reference's normalised rows, read at an index as the plain mathematics.
-/
module

public import proofs.«01_k».proof.Proof.Scatter

@[expose] public section

set_option maxRecDepth 16384

noncomputable section

namespace Cert.ReferenceIdeal.Value

open Cert.ReferenceIdeal Cert.ReferenceIdeal.Gen Idealize.ShloMosaic Idealize.ShloMosaic.TcCoe Cert.Spec

variable (V0 : Valuation τ sig (Elt Ideal))

/-- The input's row. -/
abbrev inputRow (b : Fin 4) (s : Fin 2048) (k : Fin 1024) : EReal :=
  (V0 (Proc.devRef .tc main_arg0) : FVec Ideal S4x2048x1024 .f32) (ix3 b s k)

/-- A square matrix as a function of its coordinates. -/
abbrev entries (W : FVec Ideal S1024x1024 .f32) (k j : Fin 1024) : EReal := W (ix2 k j)

/-- A vector as a function of its coordinate. -/
abbrev places (g : FVec Ideal S1024 .f32) (j : Fin 1024) : EReal := g (ix1 j)

/-- The mean of every row. -/
def meanA (y : FVec Ideal S2048x1024 .f32) : FVec Ideal S2048x1 .f32 :=
  Host.divf (broadcastInDim S2048x1 ![0] bcast_S2048_S2048x1_0 (Host.reduceAdd y (constant S_ .f32 0x00000000#32)
    reducesTo_S2048x1024_S2048_d1 h_S_)) (broadcastInDim S2048x1 ![] bcast_S_S2048x1 (constant S_ .f32 0x44800000#32))

/-- Every row less its mean. -/
def diffA (y : FVec Ideal S2048x1024 .f32) : FVec Ideal S2048x1024 .f32 :=
  subf y (broadcastInDim S2048x1024 ![0, 1] bcast_S2048x1_S2048x1024_0_1 (meanA y))

/-- The standard deviation of every row. -/
def devA (y : FVec Ideal S2048x1024 .f32) : FVec Ideal S2048x1 .f32 :=
  Host.sqrt (addf (Host.divf (broadcastInDim S2048x1 ![0] bcast_S2048_S2048x1_0 (Host.reduceAdd (mulf (diffA y) (diffA y))
    (constant S_ .f32 0x00000000#32) reducesTo_S2048x1024_S2048_d1 h_S_))
    (broadcastInDim S2048x1 ![] bcast_S_S2048x1 (constant S_ .f32 0x44800000#32)))
    (broadcastInDim S2048x1 ![] bcast_S_S2048x1 (constant S_ .f32 0x3727C5AC#32)))

/-- The layer norm of every row, negative entries cut to zero. -/
def layerA (y : FVec Ideal S2048x1024 .f32) (g b : FVec Ideal S1024 .f32) : FVec Ideal S2048x1024 .f32 :=
  maximumf (addf (mulf (Host.divf (diffA y) (broadcastInDim S2048x1024 ![0, 1] bcast_S2048x1_S2048x1024_0_1 (devA y)))
    (broadcastInDim S2048x1024 ![0, 1] bcast_S1x1024_S2048x1024_0_1 (broadcastInDim S1x1024 ![1] bcast_S1024_S1x1024_1 g)))
    (broadcastInDim S2048x1024 ![0, 1] bcast_S1x1024_S2048x1024_0_1 (broadcastInDim S1x1024 ![1] bcast_S1024_S1x1024_1 b)))
    (broadcastInDim S2048x1024 ![] bcast_S_S2048x1024 (constant S_ .f32 0x00000000#32))

/-- The mean of a row. -/
theorem meanA_at (y : FVec Ideal S2048x1024 .f32) (u : Fin 2048) (z : Fin 1) :
    meanA y (ix2 u z) = mean fun j => y (ix2 u j) := by
  pointwise [meanA, mean]

/-- An entry less its row's mean. -/
theorem diffA_at (y : FVec Ideal S2048x1024 .f32) (u : Fin 2048) (j : Fin 1024) :
    diffA y (ix2 u j) = y (ix2 u j) - mean fun j => y (ix2 u j) := by
  pointwise [diffA, meanA, mean]

/-- The standard deviation of a row. -/
theorem devA_at (y : FVec Ideal S2048x1024 .f32) (u : Fin 2048) (z : Fin 1) :
    devA y (ix2 u z) = dev fun j => y (ix2 u j) := by
  unfold dev
  simp only [← diffA_at]
  pointwise [devA]

/-- The layer norm of a row. -/
theorem layerA_at (y : FVec Ideal S2048x1024 .f32) (g b : FVec Ideal S1024 .f32) (u : Fin 2048) (j : Fin 1024) :
    layerA y g b (ix2 u j) = layer (fun j => y (ix2 u j)) (places g) (places b) j := by
  unfold layer
  rw [← diffA_at, ← devA_at y u 0]
  pointwise [layerA]

/-- Four matrices, one per batch, read at an index. -/
theorem batches_at (A B C D : FVec Ideal S2048x1024 .f32) (b : Fin 4) (u : Fin 2048) (j : Fin 1024) :
    concatenate S4x2048x1024 0 [⟨S1x2048x1024, broadcastInDim S1x2048x1024 ![1, 2] bcast_S2048x1024_S1x2048x1024_1_2 A⟩,
      ⟨S1x2048x1024, broadcastInDim S1x2048x1024 ![1, 2] bcast_S2048x1024_S1x2048x1024_1_2 B⟩,
      ⟨S1x2048x1024, broadcastInDim S1x2048x1024 ![1, 2] bcast_S2048x1024_S1x2048x1024_1_2 C⟩,
      ⟨S1x2048x1024, broadcastInDim S1x2048x1024 ![1, 2] bcast_S2048x1024_S1x2048x1024_1_2 D⟩]
      concatenates_S1x2048x1024_S1x2048x1024_S1x2048x1024_S1x2048x1024_S4x2048x1024_d0 (ix3 b u j)
    = (![A, B, C, D] b) (ix2 u j) := by
  fin_cases b <;> pointwise

/-- The normalised rows of the reference. -/
abbrev rows : FVec Ideal S4x2048x1024 .f32 := res_main_v178 V0

/-- The scattered matrices of the reference. -/
abbrev kept : FVec Ideal S4x2048x2048 .f32 := res_main_v49 V0

/-- The projected values of batch 0, weighted by the scattered matrix. -/
theorem agg0 (u : Fin 2048) (j : Fin 1024) : (res_main_v55 V0 : FVec Ideal S2048x1024 .f32) (ix2 u j)
    = proj (fun t => kept V0 (ix3 (0 : Fin 4) u t)) (fun t j => proj (proj (inputRow V0 0 t)
        (entries (V0 (Proc.devRef .tc main_arg3)))) (entries (V0 (Proc.devRef .tc main_arg4))) j) j := by
  pointwise [res_main_v55, res_main_v18, proj]

/-- The projected values of batch 1, weighted by the scattered matrix. -/
theorem agg1 (u : Fin 2048) (j : Fin 1024) : (res_main_v86 V0 : FVec Ideal S2048x1024 .f32) (ix2 u j)
    = proj (fun t => kept V0 (ix3 (1 : Fin 4) u t)) (fun t j => proj (proj (inputRow V0 1 t)
        (entries (V0 (Proc.devRef .tc main_arg3)))) (entries (V0 (Proc.devRef .tc main_arg5))) j) j := by
  pointwise [res_main_v86, res_main_v18, proj]

/-- The projected values of batch 2, weighted by the scattered matrix. -/
theorem agg2 (u : Fin 2048) (j : Fin 1024) : (res_main_v117 V0 : FVec Ideal S2048x1024 .f32) (ix2 u j)
    = proj (fun t => kept V0 (ix3 (2 : Fin 4) u t)) (fun t j => proj (proj (inputRow V0 2 t)
        (entries (V0 (Proc.devRef .tc main_arg3)))) (entries (V0 (Proc.devRef .tc main_arg6))) j) j := by
  pointwise [res_main_v117, res_main_v18, proj]

/-- The projected values of batch 3, weighted by the scattered matrix. -/
theorem agg3 (u : Fin 2048) (j : Fin 1024) : (res_main_v148 V0 : FVec Ideal S2048x1024 .f32) (ix2 u j)
    = proj (fun t => kept V0 (ix3 (3 : Fin 4) u t)) (fun t j => proj (proj (inputRow V0 3 t)
        (entries (V0 (Proc.devRef .tc main_arg3)))) (entries (V0 (Proc.devRef .tc main_arg7))) j) j := by
  pointwise [res_main_v148, res_main_v18, proj]

/-- The rows of the reference, batch after batch. -/
theorem rows_eq (b : Fin 4) (u : Fin 2048) (j : Fin 1024) : rows V0 (ix3 b u j)
    = (![layerA (res_main_v55 V0) (V0 (Proc.devRef .tc main_arg8)) (V0 (Proc.devRef .tc main_arg12)),
        layerA (res_main_v86 V0) (V0 (Proc.devRef .tc main_arg9)) (V0 (Proc.devRef .tc main_arg13)),
        layerA (res_main_v117 V0) (V0 (Proc.devRef .tc main_arg10)) (V0 (Proc.devRef .tc main_arg14)),
        layerA (res_main_v148 V0) (V0 (Proc.devRef .tc main_arg11)) (V0 (Proc.devRef .tc main_arg15))] b) (ix2 u j) :=
  batches_at _ _ _ _ b u j

/-- The rows of the reference at an index. -/
theorem rows_at (b : Fin 4) (u : Fin 2048) (j : Fin 1024) : rows V0 (ix3 b u j)
    = layer (proj (fun t => kept V0 (ix3 b u t)) fun t j =>
        proj (proj (inputRow V0 b t) (entries (V0 (Proc.devRef .tc main_arg3))))
          (entries ((![V0 (Proc.devRef .tc main_arg4), V0 (Proc.devRef .tc main_arg5), V0 (Proc.devRef .tc main_arg6),
            V0 (Proc.devRef .tc main_arg7)] : Fin 4 → FVec Ideal S1024x1024 .f32) b)) j)
      (places ((![V0 (Proc.devRef .tc main_arg8), V0 (Proc.devRef .tc main_arg9), V0 (Proc.devRef .tc main_arg10),
            V0 (Proc.devRef .tc main_arg11)] : Fin 4 → FVec Ideal S1024 .f32) b))
      (places ((![V0 (Proc.devRef .tc main_arg12), V0 (Proc.devRef .tc main_arg13), V0 (Proc.devRef .tc main_arg14),
            V0 (Proc.devRef .tc main_arg15)] : Fin 4 → FVec Ideal S1024 .f32) b)) j := by
  rw [rows_eq]
  fin_cases b
  · exact (layerA_at _ _ _ u j).trans (congrArg (fun y => layer y _ _ j) (funext (agg0 V0 u)))
  · exact (layerA_at _ _ _ u j).trans (congrArg (fun y => layer y _ _ j) (funext (agg1 V0 u)))
  · exact (layerA_at _ _ _ u j).trans (congrArg (fun y => layer y _ _ j) (funext (agg2 V0 u)))
  · exact (layerA_at _ _ _ u j).trans (congrArg (fun y => layer y _ _ j) (funext (agg3 V0 u)))

end Cert.ReferenceIdeal.Value

end
-- ==== Proof.Reference.lean ====
/-
  The reference's scores, softmax and result, read at an index as the plain mathematics.
-/
module

public import proofs.«01_k».proof.Proof.RefRows

@[expose] public section

set_option maxRecDepth 16384

noncomputable section

namespace Cert.ReferenceIdeal.Value

open Cert.ReferenceIdeal Cert.ReferenceIdeal.Gen Idealize.ShloMosaic Idealize.ShloMosaic.TcCoe Cert.Spec

variable (V0 : Valuation τ sig (Elt Ideal))

/-- A score is the scaled inner product of the two unit rows. -/
theorem scores_at (b : Fin 4) (s t : Fin 2048) : scores V0 (ix3 b s t)
    = score (unit (proj (inputRow V0 b s) (entries (V0 (Proc.devRef .tc main_arg1)))))
      (unit (proj (inputRow V0 b t) (entries (V0 (Proc.devRef .tc main_arg2))))) := by
  pointwise [res_main_v22, res_main_v0, res_main_v9, score, unit, len, proj]

/-- The largest entry, once more compared with the least value. -/
theorem max_top {n : ℕ} (d : Fin n → EReal) : max (Ideal.ofBits .f32 0xFF800000#32) (top d) = top d := by
  refine max_eq_right ?_
  unfold top
  exact (Finset.le_fold_max _).2 (Or.inl le_rfl)

/-- The exponential of an array less a number per row, the number at least the least value. -/
def expA (X : FVec Ideal S4x2048x2048 .f32) (M : FVec Ideal S4x2048 .f32) : FVec Ideal S4x2048x2048 .f32 :=
  Host.exp (subf X (broadcastInDim S4x2048x2048 ![0, 1, 2] bcast_S4x2048x1_S4x2048x2048_0_1_2
    (broadcastInDim S4x2048x1 ![0, 1] bcast_S4x2048_S4x2048x1_0_1
      (maximumf (broadcastInDim S4x2048 ![] bcast_S_S4x2048 (constant S_ .f32 0xFF800000#32)) M))))

/-- The same at an index. -/
theorem expA_at (X : FVec Ideal S4x2048x2048 .f32) (M : FVec Ideal S4x2048 .f32) (b : Fin 4) (s t : Fin 2048) :
    expA X M (ix3 b s t) = Ideal.exp (X (ix3 b s t) - max (Ideal.ofBits .f32 0xFF800000#32) (M (ix2 b s))) := by
  pointwise [expA]

/-- The largest entry of every row. -/
def maxA (X : FVec Ideal S4x2048x2048 .f32) : FVec Ideal S4x2048 .f32 :=
  Host.reduce FloatOps.maximumf X (constant S_ .f32 0xFF800000#32) reducesTo_S4x2048x2048_S4x2048_d2 h_S_

/-- The same at an index. -/
theorem maxA_at (X : FVec Ideal S4x2048x2048 .f32) (b : Fin 4) (s : Fin 2048) : maxA X (ix2 b s)
    = Finset.univ.fold max (Ideal.ofBits .f32 0xFF800000#32) fun t : Fin 2048 => X (ix3 b s t) := by
  pointwise [maxA]

/-- The scores scaled once more. -/
abbrev scaled : FVec Ideal S4x2048x2048 .f32 := res_main_v180 V0

/-- The same at an index. -/
theorem scaled_at (b : Fin 4) (s t : Fin 2048) :
    scaled V0 (ix3 b s t) = scores V0 (ix3 b s t) * Ideal.ofBits .f32 0x3D000000#32 := by
  pointwise [res_main_v180]

/-- The exponentials of the reference. -/
abbrev expos : FVec Ideal S4x2048x2048 .f32 := res_main_v187 V0

/-- The same as an array of the scaled scores. -/
theorem expos_eq : expos V0 = expA (scaled V0) (maxA (scaled V0)) := by
  unfold expos res_main_v187 expA maxA
  rfl

/-- The same at an index. -/
theorem expos_at (b : Fin 4) (s t : Fin 2048) : expos V0 (ix3 b s t) = expo (fun t => scores V0 (ix3 b s t)) t := by
  have h : maxA (scaled V0) (ix2 b s) = top fun t => scores V0 (ix3 b s t) := by
    rw [maxA_at]
    simp only [scaled_at]
    rfl
  rw [expos_eq, expA_at, h, max_top, scaled_at]
  rfl

/-- The reference's result at an index: the softmax of the scores' row times the normalised rows. -/
theorem result_at (b : Fin 4) (s : Fin 2048) (e : Fin 1024) :
    Host.dotGeneral (so := S4x2048x1024) (φ₁ := .f32) (φ₂ := .f32) dot_S4x2048x2048_S4x2048x1024_S4x2048x1024_2_1_1_2_0_0 none
      (Host.divf (res_main_v187 V0)
      (broadcastInDim S4x2048x2048 ![0, 1, 2] bcast_S4x2048x1_S4x2048x2048_0_1_2 (broadcastInDim S4x2048x1 ![0, 1]
        bcast_S4x2048_S4x2048x1_0_1 (Host.reduceAdd (res_main_v187 V0) (constant S_ .f32 0x00000000#32)
          reducesTo_S4x2048x2048_S4x2048_d2 h_S_)))) (res_main_v178 V0) (ix3 b s e)
    = proj (soft fun t => scores V0 (ix3 b s t)) (fun t j => rows V0 (ix3 b t j)) e := by
  refine Eq.trans (b := proj (fun t => Ideal.div (expos V0 (ix3 b s t)) (∑ x : Fin 2048, expos V0 (ix3 b s x)))
    (fun t j => rows V0 (ix3 b t j)) e) (by pointwise [proj]) ?_
  simp only [expos_at]
  rfl

end Cert.ReferenceIdeal.Value

end
-- ==== Proof.Gap.lean ====
/-
  The precondition, read at a row: its scores of rank 48 and 49 lie apart by at least the width of the last interval.
-/
module

public import proofs.«01_k».proof.Proof.Reference
public import proofs.«01_k».proof.Proof.Gen.Pre_kth_score_gap

@[expose] public section

set_option maxRecDepth 16384

noncomputable section

namespace Cert.Pre_kth_score_gap.Value

open Cert.Pre_kth_score_gap Cert.Pre_kth_score_gap.Gen Idealize.ShloMosaic Idealize.ShloMosaic.TcCoe Cert.Spec

/-- The 50 largest entries of every row. -/
def largest (D : FVec Ideal S4x2048x2048 .f32) : FVec Ideal S4x2048x50 .f32 :=
  (Host.topK S4x2048x50 2 (FloatOps.cmpfTotal .gt) D sliceFits_S4x2048x2048_S4x2048x50).1

/-- An entry among them, by rank. -/
theorem largest_at (D : FVec Ideal S4x2048x2048 .f32) (b : Fin 4) (s : Fin 2048) (r : Fin 50) : largest D (ix3 b s r)
    = D (ix3 b s (ranked (fun t => D (ix3 b s t)) (Fin.castLE (by omega) r))) :=
  topK_value D _ _ b s r

/-- Whether the entries of rank 48 and 49 lie apart, for every row. -/
def apart (L : FVec Ideal S4x2048x50 .f32) : IVec S4x2048 1 :=
  cmpf .oge (subf (shapeCast S4x2048 (extractStridedSlice S4x2048x1 ![0, 0, 48] L slices_S4x2048x50_S4x2048x1_0_0_48)
      shapeCasts_S4x2048x1_S4x2048)
    (shapeCast S4x2048 (extractStridedSlice S4x2048x1 ![0, 0, 49] L slices_S4x2048x50_S4x2048x1_0_0_49)
      shapeCasts_S4x2048x1_S4x2048))
    (broadcastInDim S4x2048 ![] bcast_S_S4x2048 (constant S_ .f32 0x340147AE#32))

/-- The same at a row. -/
theorem apart_at (L : FVec Ideal S4x2048x50 .f32) (b : Fin 4) (s : Fin 2048) : apart L (ix2 b s)
    = BitVec.ofBool (decide (Ideal.ofBits .f32 0x340147AE#32 ≤ L (ix3 b s (48 : Fin 50)) - L (ix3 b s (49 : Fin 50)))) := by
  pointwise [apart]

/-- The precondition's array as a function of the reference's scores. -/
theorem fn_eq (V0 : Valuation Cert.ReferenceIdeal.τ Cert.ReferenceIdeal.sig (Elt Ideal))
    (y : FVec Ideal S1024x1024 .f32) (a b c d : FVec Ideal S1024x1024 .f32) (e f g h i j k l : FVec Ideal S1024 .f32) :
    fn (F := Ideal) (V0 (Proc.devRef .tc Cert.ReferenceIdeal.main_arg0)) (V0 (Proc.devRef .tc Cert.ReferenceIdeal.main_arg1))
      (V0 (Proc.devRef .tc Cert.ReferenceIdeal.main_arg2)) y a b c d e f g h i j k l
    = apart (largest (Cert.ReferenceIdeal.Value.scores V0)) := by
  unfold fn fn_part1 apart largest Cert.ReferenceIdeal.Value.scores Cert.ReferenceIdeal.Value.res_main_v22
    Cert.ReferenceIdeal.Value.res_main_v0 Cert.ReferenceIdeal.Value.res_main_v9
  rfl

/-- A row whose comparison came out true has the two scores apart. -/
theorem gap_of (D : FVec Ideal S4x2048x2048 .f32) (h : apart (largest D) = fun _ => 1#1) (b : Fin 4) (s : Fin 2048) :
    Ideal.ofBits .f32 0x340147AE#32
      ≤ D (ix3 b s (ranked (fun t => D (ix3 b s t)) (48 : Fin 2048))) - D (ix3 b s (ranked (fun t => D (ix3 b s t)) (49 : Fin 2048))) := by
  have hb := congrFun h (ix2 b s)
  rw [apart_at, largest_at, largest_at] at hb
  by_contra hn
  refine absurd hb ?_
  rw [show (Fin.castLE (by omega) (48 : Fin 50) : Fin 2048) = 48 from rfl,
    show (Fin.castLE (by omega) (49 : Fin 50) : Fin 2048) = 49 from rfl, decide_eq_false hn]
  decide

end Cert.Pre_kth_score_gap.Value

end
-- ==== Proof.Run.lean ====
/-
  The idealized kernel's run: what its result array holds at the end is read off the contents at the last boundary of
  its segments; every argument is unchanged.
-/
module

public import proofs.«01_k».proof.Proof.Gen.KernelIdeal.Frame

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with the result array at the contents of the last boundary, the arguments as launched. -/
theorem run : θ_run defs (onTc (τ := τ) (main (F := F))) ⟨m, fun _ => 0, ρ⟩ (fun r => ∀ c : Dev nD,
      r.2.mem ((c.tc : Thread nD τ).loc main_v24) = W6 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨h c _ (mem_uc main_v24 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.Value

end
-- ==== Proof.Region0.lean ====
/-
  The first kernel region: the three arrays it leaves, as functions of the arrays it finds. Each grid point works on
  one batch and one block of 256 rows; the blocks tile the arrays.
-/
module

public import proofs.«01_k».proof.Proof.Spec
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

variable (V : (c : Dev nD) → (b : Ref sig .tc) → Buf (Elt Ideal) ((c : Thread nD τ).loc b))

/-- The array of unit query rows. -/
def QA (X : FVec Ideal S4x2048x1024 .f32) (W : FVec Ideal S1024x1024 .f32) : FVec Ideal S4x2048x1024 .f32 := fun i =>
  unit (proj (fun k => X (ix3 (i 0) (i 1) k)) fun k j => W (ix2 k j)) (i 2)

/-- The array of unit key rows, rows and columns exchanged. -/
def KA (X : FVec Ideal S4x2048x1024 .f32) (W : FVec Ideal S1024x1024 .f32) : FVec Ideal S4x1024x2048 .f32 := fun i =>
  unit (proj (fun k => X (ix3 (i 0) (i 2) k)) fun k j => W (ix2 k j)) (i 1)

/-- The array of projected values, each batch times its own matrix. -/
def UA (X : FVec Ideal S4x2048x1024 .f32) (W : FVec Ideal S1024x1024 .bf16) (G : FVec Ideal S4x1024x1024 .bf16) :
    FVec Ideal S4x2048x1024 .bf16 := fun i =>
  proj (proj (fun k => X (ix3 (i 0) (i 1) k)) fun k j => W (ix2 k j)) (fun k j => G (ix3 (i 0) k j)) (i 2)

/-- The block of each window at every point of the grid. -/
theorem idx0 : ∀ t : Fin cfg0.N, win0_0.index t = ![t.val / 8, t.val % 8, 0] ∧ win0_1.index t = ![0, 0]
    ∧ win0_2.index t = ![0, 0] ∧ win0_3.index t = ![0, 0] ∧ win0_4.index t = ![t.val / 8, 0, 0]
    ∧ win0_5.index t = ![t.val / 8, t.val % 8, 0] ∧ win0_6.index t = ![t.val / 8, 0, t.val % 8]
    ∧ win0_7.index t = ![t.val / 8, t.val % 8, 0] :=
  (by decide +kernel : ∀ t : Fin grid0.N, _)

/-- One point's block of query rows. -/
theorem point0_5 (c : Dev nD) (t : Fin cfg0.N) (y) : k0_pay4 (iblk0 V c 0 t) (iblk0 V c 1 t) y
    = QA (V c main_arg0) (V c main_arg1) (((cfg0.win 5).blk t).view.emb y) := by
  pointwise [k0_pay4, k0_pay2, QA, unit, len, proj]
  blk_point [iblk0, idx0 t]

/-- The first output array after the region. -/
theorem final0_5 (c : Dev nD) : (dat0 V c).arrAt 5 cfg0.N = QA (V c main_arg0) (V c main_arg1) := by
  refine (dat0 V c).arrAt_eq_of_covers 5 _ (by decide +kernel) fun t _ y => ?_
  blk_simp
  rw [after0_5]; frame_out
  exact point0_5 V c t y

/-- One point's block of key columns. -/
theorem point0_6 (c : Dev nD) (t : Fin cfg0.N) (y) : k0_pay5 (iblk0 V c 0 t) (iblk0 V c 2 t) y
    = KA (V c main_arg0) (V c main_arg2) (((cfg0.win 6).blk t).view.emb y) := by
  pointwise [k0_pay5, k0_pay2, KA, unit, len, proj]
  blk_point [iblk0, idx0 t]

/-- The second output array after the region. -/
theorem final0_6 (c : Dev nD) : (dat0 V c).arrAt 6 cfg0.N = KA (V c main_arg0) (V c main_arg2) := by
  refine (dat0 V c).arrAt_eq_of_covers 6 _ (by decide +kernel) fun t _ y => ?_
  blk_simp
  rw [after0_6]; frame_out
  exact point0_6 V c t y

/-- One point's block of projected values. -/
theorem point0_7 (c : Dev nD) (t : Fin cfg0.N) (y) :
    k0_pay1 (k0_pay3 (iblk0 V c 0 t) (iblk0 V c 3 t) (iblk0 V c 4 t)) y
    = UA (V c main_arg0) (V c main_v17) (V c main_v18) (((cfg0.win 7).blk t).view.emb y) := by
  pointwise [k0_pay1, k0_pay3, k0_pay2, UA, proj]
  blk_point [iblk0, idx0 t]

/-- The third output array after the region. -/
theorem final0_7 (c : Dev nD) : (dat0 V c).arrAt 7 cfg0.N = UA (V c main_arg0) (V c main_v17) (V c main_v18) := by
  refine (dat0 V c).arrAt_eq_of_covers 7 _ (by decide +kernel) fun t _ y => ?_
  blk_simp
  rw [after0_7]; frame_out
  exact point0_7 V c t y

end Cert.KernelIdeal.Value

end
-- ==== Proof.Region1.lean ====
/-
  The second kernel region: the scores and the threshold of each row. The threshold is found by a counted loop that
  halves an interval 19 times; the trip counts the entries at or above the middle by adding halves of a column.
-/
module

public import proofs.«01_k».proof.Proof.Spec
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

variable (V : (c : Dev nD) → (b : Ref sig .tc) → Buf (Elt Ideal) ((c : Thread nD τ).loc b))

/-- The array of scores. -/
def DA (Q : FVec Ideal S4x2048x1024 .f32) (K : FVec Ideal S4x1024x2048 .f32) : FVec Ideal S4x2048x2048 .f32 := fun i =>
  score (fun k => Q (ix3 (i 0) (i 1) k)) fun k => K (ix3 (i 0) k (i 2))

/-- The block of each window at every point of the grid. -/
theorem idx1 : ∀ t : Fin cfg1.N, win1_0.index t = ![t.val / 8, t.val % 8, 0] ∧ win1_1.index t = ![t.val / 8, 0, 0]
    ∧ win1_2.index t = ![t.val / 8, t.val % 8, 0] ∧ win1_3.index t = ![t.val, 0, 0] :=
  (by decide +kernel : ∀ t : Fin grid1.N, _)

/-- One point's block of scores. -/
theorem point1_2 (c : Dev nD) (t : Fin cfg1.N) (y) : k1_pay2 (iblk1 V c 0 t) (iblk1 V c 1 t) y
    = DA (V c main_v19_0) (V c main_v19_1) (((cfg1.win 2).blk t).view.emb y) := by
  pointwise [k1_pay2, k1_pay1, DA, score]
  blk_point [iblk1, idx1 t]

/-- What a point leaves in the block of scores. -/
theorem out1_2 (c : Dev nD) (t : Fin cfg1.N) : (outsAt1 V c t).1 = k1_pay2 (iblk1 V c 0 t) (iblk1 V c 1 t) := by
  simp only [outsAt1]
  frame_out

/-- The scores after the region. -/
theorem final1_2 (c : Dev nD) : (dat1 V c).arrAt 2 cfg1.N = DA (V c main_v19_0) (V c main_v19_1) := by
  refine (dat1 V c).arrAt_eq_of_covers 2 _ (by decide +kernel) fun t _ y => ?_
  blk_simp
  rw [after1_2, out1_2]
  exact point1_2 V c t y

/-! ## The threshold -/

/-- A counted loop whose trips all do the same is that step repeated. -/
theorem fold_const {σ : Type} {n : ℕ} (g : σ → σ) (x : σ) : Scf.fold (fun (_ : Fin n) a => g a) x = g^[n] x := by
  rw [Scf.fold_eq, List.foldl_const, List.length_finRange]

section Trip

variable (v0 : FVec Ideal S1x256x1024 .f32) (v2 : FVec Ideal S1x1024x2048 .f32)

/-- A column's halves added to each other. -/
def addHalves (n N : ℕ) (h : n + n = N) (f : Fin N → EReal) (x : Fin n) : EReal :=
  f ⟨x.val, by omega⟩ + f ⟨n + x.val, by omega⟩

/-- Adding the halves keeps the sum. -/
theorem sum_addHalves (n N : ℕ) (h : n + n = N) (f : Fin N → EReal) : (∑ s, f s) = ∑ x, addHalves n N h f x := by
  rw [Fin.sum_univ_two_halves n n h f, ← Finset.sum_add_distrib]
  rfl

/-- A column of 2048 entries brought to eight by adding halves. -/
def toEight (f : Fin 2048 → EReal) : Fin 8 → EReal :=
  addHalves 8 16 rfl (addHalves 16 32 rfl (addHalves 32 64 rfl (addHalves 64 128 rfl
    (addHalves 128 256 rfl (addHalves 256 512 rfl (addHalves 512 1024 rfl (addHalves 1024 2048 rfl f)))))))

/-- Its sum is the column's. -/
theorem sum_toEight (f : Fin 2048 → EReal) : (∑ x, toEight f x) = ∑ s, f s := by
  unfold toEight
  simp only [← sum_addHalves]

/-- The test of a trip, on one row of the block: whether at least 49 scores reach the middle. -/
theorem test (lo hi : FVec Ideal S1x256 .f32) (r : Fin 256) (x y : EReal) :
    Scalar.select (k1_pay6 v0 v2 lo hi (ix2 (0 : Fin 1) r)) x y
      = if Ideal.ofBits .f32 0x42440000#32 ≤ Spec.count (fun s : Fin 2048 => k1_pay1 (F := Ideal) v0 v2 (ix2 r s))
          (k1_pay5 (F := Ideal) lo hi (ix2 (0 : Fin 1) r)) then x else y := by
  unfold Spec.count
  rw [← sum_toEight]
  pointwise [k1_pay6]
  simp only [toEight, addHalves]
  congr 2

/-- One trip, on one row of the block: the interval halved. -/
theorem trip (lo hi : FVec Ideal S1x256 .f32) (r : Fin 256) :
    (k1_pay7 v0 v2 lo hi (ix2 (0 : Fin 1) r), k1_pay8 v0 v2 lo hi (ix2 (0 : Fin 1) r))
      = halve (fun s : Fin 2048 => k1_pay1 (F := Ideal) v0 v2 (ix2 r s))
          (lo (ix2 (0 : Fin 1) r), hi (ix2 (0 : Fin 1) r)) := by
  have h7 : k1_pay7 v0 v2 lo hi (ix2 (0 : Fin 1) r)
      = Scalar.select (k1_pay6 v0 v2 lo hi (ix2 (0 : Fin 1) r)) (mid (lo (ix2 (0 : Fin 1) r), hi (ix2 (0 : Fin 1) r)))
        (lo (ix2 (0 : Fin 1) r)) := by
    pointwise [k1_pay7, k1_pay5, mid]
  have h8 : k1_pay8 v0 v2 lo hi (ix2 (0 : Fin 1) r)
      = Scalar.select (k1_pay6 v0 v2 lo hi (ix2 (0 : Fin 1) r)) (hi (ix2 (0 : Fin 1) r))
        (mid (lo (ix2 (0 : Fin 1) r), hi (ix2 (0 : Fin 1) r))) := by
    pointwise [k1_pay8, k1_pay5, mid]
  have h5 : k1_pay5 lo hi (ix2 (0 : Fin 1) r) = mid (lo (ix2 (0 : Fin 1) r), hi (ix2 (0 : Fin 1) r)) := by
    pointwise [k1_pay5, mid]
  rw [h7, h8, test, test, h5]
  unfold halve
  split <;> rfl

/-- The loop, on one row of the block: the search over its scores. -/
theorem loop (n : ℕ) (r : Fin 256) :
    let p := (fun a : FVec Ideal S1x256 .f32 × FVec Ideal S1x256 .f32 =>
      (k1_pay7 v0 v2 a.1 a.2, k1_pay8 v0 v2 a.1 a.2))^[n] (k1_pay3, k1_pay4)
    (p.1 (ix2 (0 : Fin 1) r), p.2 (ix2 (0 : Fin 1) r)) = bisect (fun s : Fin 2048 => k1_pay1 (F := Ideal) v0 v2 (ix2 r s)) n := by
  induction n with
  | zero =>
    simp only [bisect, Function.iterate_zero, id]
    refine Prod.ext ?_ ?_
    · pointwise [k1_pay3]
    · pointwise [k1_pay4]
  | succ n ih =>
    simp only [bisect, Function.iterate_succ_apply'] at ih ⊢
    rw [← ih]
    exact trip v0 v2 _ _ r

end Trip

/-- What a point leaves in the block of thresholds. -/
theorem out1_3 (c : Dev nD) (t : Fin cfg1.N) : (outsAt1 V c t).2
    = k1_pay9 ((fun a : FVec Ideal S1x256 .f32 × FVec Ideal S1x256 .f32 =>
      (k1_pay7 (iblk1 V c 0 t) (iblk1 V c 1 t) a.1 a.2, k1_pay8 (iblk1 V c 0 t) (iblk1 V c 1 t) a.1 a.2))^[19]
        (k1_pay3, k1_pay4)).1 := by
  simp only [outsAt1]
  frame_out
  rw [fold_const, show k1_t1_loop.trips = 19 by decide]

/-- The array of thresholds: one block of 256 rows after the other. -/
def TA (D : FVec Ideal S4x2048x2048 .f32) : FVec Ideal S32x1x256 .f32 := fun i =>
  thr fun s : Fin 2048 => D (ix3 (⟨(i 0).val / 8, by idx_bounds; omega⟩ : Fin 4)
    (⟨(i 0).val % 8 * 256 + (i 2).val, by idx_bounds; omega⟩ : Fin 2048) s)

/-- One point's block of thresholds. -/
theorem point1_3 (c : Dev nD) (t : Fin cfg1.N) (y) : (outsAt1 V c t).2 y
    = TA (DA (V c main_v19_0) (V c main_v19_1)) (((cfg1.win 3).blk t).view.emb y) := by
  rw [out1_3]
  pointwise [k1_pay9]
  have h := congrArg Prod.fst (loop (iblk1 V c 0 t) (iblk1 V c 1 t) 19 (y 2))
  refine Eq.trans h ?_
  unfold TA thr
  refine congrArg (fun d => (bisect d 19).1) (funext fun s => ?_)
  pointwise [k1_pay1, DA, score]
  blk_point [iblk1, idx1 t]

/-- The thresholds after the region. -/
theorem final1_3 (c : Dev nD) : (dat1 V c).arrAt 3 cfg1.N = TA (DA (V c main_v19_0) (V c main_v19_1)) := by
  refine (dat1 V c).arrAt_eq_of_covers 3 _ (by decide +kernel) fun t _ y => ?_
  blk_simp
  rw [after1_3]
  exact point1_3 V c t y

end Cert.KernelIdeal.Value

end
-- ==== Proof.Region2.lean ====
/-
  The third and fourth kernel regions: the arrays they leave, as functions of the arrays they find.
-/
module

public import proofs.«01_k».proof.Proof.Spec
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

variable (V : (c : Dev nD) → (b : Ref sig .tc) → Buf (Elt Ideal) ((c : Thread nD τ).loc b))

/-- The masked scores times the projected values, normalised: the array the third region leaves. -/
def GA (D : FVec Ideal S4x2048x2048 .f32) (T : FVec Ideal S32x1x256 .f32) (U : FVec Ideal S4x2048x1024 .bf16)
    (g b : FVec Ideal S4x1x1024 .f32) : FVec Ideal S4x2048x1024 .bf16 := fun i =>
  layer (proj (keep (fun s => D (ix3 (i 0) (i 1) s))
      (T (ix3 (⟨(i 0).val * 8 + (i 1).val / 256, by idx_bounds; omega⟩ : Fin 32) (0 : Fin 1)
        (⟨(i 1).val % 256, by omega⟩ : Fin 256)))) fun s j => U (ix3 (i 0) s j))
    (fun j => g (ix3 (i 0) (0 : Fin 1) j)) (fun j => b (ix3 (i 0) (0 : Fin 1) j)) (i 2)

/-- The block of each window of the third region at every point of the grid. -/
theorem idx2 : ∀ t : Fin cfg2.N, win2_0.index t = ![t.val / 8, t.val % 8, 0] ∧ win2_1.index t = ![t.val, 0, 0]
    ∧ win2_2.index t = ![t.val / 8, 0, 0] ∧ win2_3.index t = ![t.val / 8, 0, 0] ∧ win2_4.index t = ![t.val / 8, 0, 0]
    ∧ win2_5.index t = ![t.val / 8, t.val % 8, 0] :=
  (by decide +kernel : ∀ t : Fin grid2.N, _)

/-- One point's block of the third region. -/
theorem point2_5 (c : Dev nD) (t : Fin cfg2.N) (y) :
    k2_pay1 (k2_pay2 (iblk2 V c 0 t) (iblk2 V c 1 t) (iblk2 V c 2 t) (iblk2 V c 3 t)) (iblk2 V c 4 t) y
    = GA (V c main_v20_0) (V c main_v22) (V c main_v19_2) (V c main_v10) (V c main_v16)
        (((cfg2.win 5).blk t).view.emb y) := by
  pointwise [k2_pay1, k2_pay2, GA, layer, mean, dev, keep, proj]
  blk_point [iblk2, idx2 t]

/-- The output array after the third region. -/
theorem final2_5 (c : Dev nD) : (dat2 V c).arrAt 5 cfg2.N
    = GA (V c main_v20_0) (V c main_v22) (V c main_v19_2) (V c main_v10) (V c main_v16) := by
  refine (dat2 V c).arrAt_eq_of_covers 5 _ (by decide +kernel) fun t _ y => ?_
  blk_simp
  rw [after2_5]; frame_out
  exact point2_5 V c t y

/-- The softmax of the scaled scores times the normalised values: the array the fourth region leaves. -/
def OA (D : FVec Ideal S4x2048x2048 .f32) (G : FVec Ideal S4x2048x1024 .bf16) : FVec Ideal S4x2048x1024 .f32 := fun i =>
  proj (soft fun s => D (ix3 (i 0) (i 1) s)) (fun s j => G (ix3 (i 0) s j)) (i 2)

/-- The block of each window of the fourth region at every point of the grid. -/
theorem idx3 : ∀ t : Fin cfg3.N, win3_0.index t = ![t.val / 8, t.val % 8, 0] ∧ win3_1.index t = ![t.val / 8, 0, 0]
    ∧ win3_2.index t = ![t.val / 8, t.val % 8, 0] :=
  (by decide +kernel : ∀ t : Fin grid3.N, _)

/-- One point's block of the fourth region. -/
theorem point3_2 (c : Dev nD) (t : Fin cfg3.N) (y) : k3_pay1 (iblk3 V c 0 t) (iblk3 V c 1 t) y
    = OA (V c main_v20_0) (V c main_v23) (((cfg3.win 2).blk t).view.emb y) := by
  pointwise [k3_pay1, OA, soft, expo, top, proj]
  blk_point [iblk3, idx3 t]

/-- The output array after the fourth region. -/
theorem final3_2 (c : Dev nD) : (dat3 V c).arrAt 2 cfg3.N = OA (V c main_v20_0) (V c main_v23) := by
  refine (dat3 V c).arrAt_eq_of_covers 2 _ (by decide +kernel) fun t _ y => ?_
  blk_simp
  rw [after3_2]; frame_out
  exact point3_2 V c t y

end Cert.KernelIdeal.Value

end
-- ==== Proof.Chain.lean ====
/-
  The idealized kernel's result array as a function of its arguments: the four regions' arrays composed through the
  stacked, reshaped and cast operands between them.
-/
module

public import proofs.«01_k».proof.Proof.Region0
public import proofs.«01_k».proof.Proof.Region1
public import proofs.«01_k».proof.Proof.Region2
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen Cert.Spec

variable (m : (ℓ : Loc nD τ sig) → Buf (Elt Ideal) ℓ) (ρ : Dev nD → PrngReg)

/-- The four batches' matrices, one array. -/
def stackM (A B C D : FVec Ideal S1024x1024 .f32) : FVec Ideal S4x1024x1024 .bf16 := fun i =>
  (![A, B, C, D] (i 0)) (ix2 (i 1) (i 2))

/-- The four batches' rows, one array. -/
def stackR (A B C D : FVec Ideal S1024 .f32) : FVec Ideal S4x1x1024 .f32 := fun i => (![A, B, C, D] (i 0)) (ix1 (i 2))

/-- Four matrices laid one after another, as the stacked array. -/
theorem stackM_of {A B C D : FVec Ideal S1x1024x1024 .f32} {a b c d : FVec Ideal S1024x1024 .f32}
    (hA : A = broadcastInDim S1x1024x1024 ![1, 2] bcast_S1024x1024_S1x1024x1024_1_2 a)
    (hB : B = broadcastInDim S1x1024x1024 ![1, 2] bcast_S1024x1024_S1x1024x1024_1_2 b)
    (hC : C = broadcastInDim S1x1024x1024 ![1, 2] bcast_S1024x1024_S1x1024x1024_1_2 c)
    (hD : D = broadcastInDim S1x1024x1024 ![1, 2] bcast_S1024x1024_S1x1024x1024_1_2 d) :
    (truncf .bf16 (concatenate S4x1024x1024 0 [⟨S1x1024x1024, A⟩, ⟨S1x1024x1024, B⟩, ⟨S1x1024x1024, C⟩, ⟨S1x1024x1024, D⟩]
      concatenates_S1x1024x1024_S1x1024x1024_S1x1024x1024_S1x1024x1024_S4x1024x1024_d0) bitsLt_bf16_f32 : FVec Ideal S4x1024x1024 .bf16) =
    stackM a b c d := by
  subst hA hB hC hD
  funext i
  obtain ⟨b, r, e, rfl⟩ : ∃ b r e, i = ix3 b r e := ⟨i 0, i 1, i 2, by pointwise⟩
  fin_cases b <;> pointwise [stackM]

/-- Four rows laid one after another, as the stacked array. -/
theorem stackR_of {A B C D : FVec Ideal S1x1024 .f32} {a b c d : FVec Ideal S1024 .f32}
    (hA : A = broadcastInDim S1x1024 ![1] bcast_S1024_S1x1024_1 a)
    (hB : B = broadcastInDim S1x1024 ![1] bcast_S1024_S1x1024_1 b)
    (hC : C = broadcastInDim S1x1024 ![1] bcast_S1024_S1x1024_1 c)
    (hD : D = broadcastInDim S1x1024 ![1] bcast_S1024_S1x1024_1 d) (h : S4x1024.numel = S4x1x1024.numel) :
    (shapeCast S4x1x1024 (concatenate S4x1024 0 [⟨S1x1024, A⟩, ⟨S1x1024, B⟩, ⟨S1x1024, C⟩, ⟨S1x1024, D⟩]
      concatenates_S1x1024_S1x1024_S1x1024_S1x1024_S4x1024_d0) h : FVec Ideal S4x1x1024 .f32) =
    stackR a b c d := by
  subst hA hB hC hD
  funext i
  obtain ⟨b, r, e, rfl⟩ : ∃ b r e, i = ix3 b r e := ⟨i 0, i 1, i 2, by pointwise⟩
  fin_cases b <;> pointwise [stackR]

/-- The stacked matrices at the first region's entry. -/
theorem entry_v18 (c : Dev nD) : V1 m ρ c main_v18 = stackM (m ((c : Thread nD τ).loc main_arg4))
    (m ((c : Thread nD τ).loc main_arg5)) (m ((c : Thread nD τ).loc main_arg6)) (m ((c : Thread nD τ).loc main_arg7)) := by
  show StableHlo.after hostOps0 (W0 m ρ c) (Proc.devRef .tc main_v18) = _
  after_results
  refine stackM_of ?_ ?_ ?_ ?_
  · show HloOp.result _ _ (Proc.devRef .tc main_v0) = _
    after_results
  · show HloOp.result _ _ (Proc.devRef .tc main_v1) = _
    after_results
  · show HloOp.result _ _ (Proc.devRef .tc main_v2) = _
    after_results
  · show HloOp.result _ _ (Proc.devRef .tc main_v3) = _
    after_results

/-- The stacked gains at the third region's entry. -/
theorem entry_v10 (c : Dev nD) : V1 m ρ c main_v10 = stackR (m ((c : Thread nD τ).loc main_arg8))
    (m ((c : Thread nD τ).loc main_arg9)) (m ((c : Thread nD τ).loc main_arg10)) (m ((c : Thread nD τ).loc main_arg11)) := by
  show StableHlo.after hostOps0 (W0 m ρ c) (Proc.devRef .tc main_v10) = _
  after_results
  refine stackR_of ?_ ?_ ?_ ?_ _
  · show HloOp.result _ _ (Proc.devRef .tc main_v5) = _
    after_results
  · show HloOp.result _ _ (Proc.devRef .tc main_v6) = _
    after_results
  · show HloOp.result _ _ (Proc.devRef .tc main_v7) = _
    after_results
  · show HloOp.result _ _ (Proc.devRef .tc main_v8) = _
    after_results

/-- The stacked offsets at the third region's entry. -/
theorem entry_v16 (c : Dev nD) : V1 m ρ c main_v16 = stackR (m ((c : Thread nD τ).loc main_arg12))
    (m ((c : Thread nD τ).loc main_arg13)) (m ((c : Thread nD τ).loc main_arg14)) (m ((c : Thread nD τ).loc main_arg15)) := by
  show StableHlo.after hostOps0 (W0 m ρ c) (Proc.devRef .tc main_v16) = _
  after_results
  refine stackR_of ?_ ?_ ?_ ?_ _
  · show HloOp.result _ _ (Proc.devRef .tc main_v11) = _
    after_results
  · show HloOp.result _ _ (Proc.devRef .tc main_v12) = _
    after_results
  · show HloOp.result _ _ (Proc.devRef .tc main_v13) = _
    after_results
  · show HloOp.result _ _ (Proc.devRef .tc main_v14) = _
    after_results

/-- The value projection's matrix at the first region's entry. -/
theorem entry_v17 (c : Dev nD) : V1 m ρ c main_v17 = (m ((c : Thread nD τ).loc main_arg3) : FVec Ideal S1024x1024 .f32) := by
  show StableHlo.after hostOps0 (W0 m ρ c) (Proc.devRef .tc main_v17) = _
  after_results
  rfl

/-- The thresholds at the third region's entry: the second region's array, reshaped there and back. -/
theorem entry_v22 (c : Dev nD) : V4 m ρ c main_v22 = V3 m ρ c main_v20_1 := by
  show StableHlo.after hostOps2 (W3 m ρ c) (Proc.devRef .tc main_v22) = _
  after_results
  refine (?_ : shapeCast S32x1x256 (shapeCast S4x2048 (V3 m ρ c main_v20_1 : FVec Ideal S32x1x256 .f32)
    shapeCasts_S32x1x256_S4x2048) shapeCasts_S4x2048_S32x1x256 = _)
  funext i
  pointwise

variable (c : Dev nD)

/-- The scores of the launch. -/
abbrev scoresOf : FVec Ideal S4x2048x2048 .f32 :=
  DA (QA (m ((c : Thread nD τ).loc main_arg0)) (m ((c : Thread nD τ).loc main_arg1)))
    (KA (m ((c : Thread nD τ).loc main_arg0)) (m ((c : Thread nD τ).loc main_arg2)))

/-- The first region's three arrays. -/
theorem exit0 : V2 m ρ c main_v19_0 = QA (m ((c : Thread nD τ).loc main_arg0)) (m ((c : Thread nD τ).loc main_arg1)) ∧
    V2 m ρ c main_v19_1 = KA (m ((c : Thread nD τ).loc main_arg0)) (m ((c : Thread nD τ).loc main_arg2)) ∧
    V2 m ρ c main_v19_2 = UA (m ((c : Thread nD τ).loc main_arg0)) (m ((c : Thread nD τ).loc main_arg3))
      (stackM (m ((c : Thread nD τ).loc main_arg4)) (m ((c : Thread nD τ).loc main_arg5))
        (m ((c : Thread nD τ).loc main_arg6)) (m ((c : Thread nD τ).loc main_arg7))) := by
  have a0 : V1 m ρ c main_arg0 = m ((c : Thread nD τ).loc main_arg0) := W1_args m ρ c _ (by decide)
  have a1 : V1 m ρ c main_arg1 = m ((c : Thread nD τ).loc main_arg1) := W1_args m ρ c _ (by decide)
  have a2 : V1 m ρ c main_arg2 = m ((c : Thread nD τ).loc main_arg2) := W1_args m ρ c _ (by decide)
  refine ⟨(W2_arr m ρ c 5).trans ((final0_5 (V1 m ρ) c).trans ?_), (W2_arr m ρ c 6).trans ((final0_6 (V1 m ρ) c).trans ?_),
    (W2_arr m ρ c 7).trans ((final0_7 (V1 m ρ) c).trans ?_)⟩
  · rw [a0, a1]
  · rw [a0, a2]
  · rw [a0, entry_v17, entry_v18]

/-- The second region's two arrays. -/
theorem exit1 : V3 m ρ c main_v20_0 = scoresOf m c ∧ V3 m ρ c main_v20_1 = TA (scoresOf m c) := by
  obtain ⟨h0, h1, -⟩ := exit0 m ρ c
  refine ⟨(W3_arr m ρ c 2).trans ((final1_2 (V2 m ρ) c).trans ?_), (W3_arr m ρ c 3).trans ((final1_3 (V2 m ρ) c).trans ?_)⟩
  all_goals rw [h0, h1]

/-- The rows after the third region. -/
abbrev rowsOf : FVec Ideal S4x2048x1024 .bf16 :=
  GA (scoresOf m c) (TA (scoresOf m c)) (UA (m ((c : Thread nD τ).loc main_arg0)) (m ((c : Thread nD τ).loc main_arg3))
      (stackM (m ((c : Thread nD τ).loc main_arg4)) (m ((c : Thread nD τ).loc main_arg5))
        (m ((c : Thread nD τ).loc main_arg6)) (m ((c : Thread nD τ).loc main_arg7))))
    (stackR (m ((c : Thread nD τ).loc main_arg8)) (m ((c : Thread nD τ).loc main_arg9))
        (m ((c : Thread nD τ).loc main_arg10)) (m ((c : Thread nD τ).loc main_arg11)))
    (stackR (m ((c : Thread nD τ).loc main_arg12)) (m ((c : Thread nD τ).loc main_arg13))
        (m ((c : Thread nD τ).loc main_arg14)) (m ((c : Thread nD τ).loc main_arg15)))

/-- The third region's array. -/
theorem exit2 : V5 m ρ c main_v23 = rowsOf m c := by
  obtain ⟨h0, h1⟩ := exit1 m ρ c
  have u : V4 m ρ c main_v19_2 = V2 m ρ c main_v19_2 :=
    (W4_of m ρ c _ (by decide)).trans (W3_of m ρ c _ (by decide))
  have d : V4 m ρ c main_v20_0 = V3 m ρ c main_v20_0 := W4_of m ρ c _ (by decide)
  have g : V4 m ρ c main_v10 = V1 m ρ c main_v10 :=
    (W4_of m ρ c _ (by decide)).trans ((W3_of m ρ c _ (by decide)).trans (W2_of m ρ c _ (by decide)))
  have b : V4 m ρ c main_v16 = V1 m ρ c main_v16 :=
    (W4_of m ρ c _ (by decide)).trans ((W3_of m ρ c _ (by decide)).trans (W2_of m ρ c _ (by decide)))
  refine (W5_arr m ρ c 5).trans ((final2_5 (V4 m ρ) c).trans ?_)
  rw [d, h0, entry_v22, h1, u, (exit0 m ρ c).2.2, g, b, entry_v10, entry_v16]

/-- The launch's result as a function of its arguments. -/
theorem result : W6 m ρ c (Proc.devRef .tc main_v24) = OA (scoresOf m c) (rowsOf m c) := by
  have d : V5 m ρ c main_v20_0 = V3 m ρ c main_v20_0 :=
    (W5_of m ρ c _ (by decide)).trans (W4_of m ρ c _ (by decide))
  refine (W6_arr m ρ c 2).trans ((final3_2 (V5 m ρ) c).trans ?_)
  rw [d, (exit1 m ρ c).1, exit2]

end Cert.KernelIdeal.Value
-- ==== Proof.Bound.lean ====
/-
  Every score is a real number of absolute value at most 1/32, whatever the rows: a row divided by its length is a row
  of reals with sum of squares at most one, and Cauchy–Schwarz bounds the inner product of two such rows.
-/
module

public import proofs.«01_k».proof.Proof.Spec

@[expose] public section

noncomputable section

namespace Cert.Spec

open Idealize.ShloMosaic

/-- The end of the search interval. -/
def bound : ℝ := 8472494 / 2 ^ 28

/-- The scale of the scores is one thirty-second. -/
theorem word_scale : Ideal.ofBits .f32 0x3D000000#32 = ((1 / 32 : ℝ) : EReal) := by
  simp [Ideal.ofBits, Ideal.ieee, -EReal.coe_mul]; norm_num

/-- The upper end of the search interval. -/
theorem word_hi : Ideal.ofBits .f32 0x3D0147AE#32 = (bound : EReal) := by
  simp [Ideal.ofBits, Ideal.ieee, -EReal.coe_mul, bound]; norm_num

/-- The lower end of the search interval. -/
theorem word_lo : Ideal.ofBits .f32 0xBD0147AE#32 = ((-bound : ℝ) : EReal) := by
  simp [Ideal.ofBits, Ideal.ieee, -EReal.coe_mul, -EReal.coe_neg, bound]; norm_num

/-- The gap asked of a row is the width of the interval where the search stops. -/
theorem word_gap : Ideal.ofBits .f32 0x340147AE#32 = ((bound / 2 ^ 18 : ℝ) : EReal) := by
  simp [Ideal.ofBits, Ideal.ieee, -EReal.coe_mul, bound]; norm_num

/-- The factor of the middle is one half. -/
theorem word_half : Ideal.ofBits .f32 0x3F000000#32 = ((1 / 2 : ℝ) : EReal) := by
  simp [Ideal.ofBits, Ideal.ieee, -EReal.coe_mul]; norm_num

/-- The number of entries kept is 49. -/
theorem word_kept : Ideal.ofBits .f32 0x42440000#32 = ((49 : ℝ) : EReal) := by
  simp [Ideal.ofBits, Ideal.ieee, -EReal.coe_mul]; norm_num

/-- The least length a row is divided by is a positive real. -/
theorem word_eps : Ideal.ofBits .f32 0x2B8CBCCC#32 = ((9223372 / 2 ^ 63 : ℝ) : EReal) := by
  simp [Ideal.ofBits, Ideal.ieee, -EReal.coe_mul]; norm_num

/-- A sum of reals is the real sum. -/
theorem sum_coe {n : ℕ} (f : Fin n → ℝ) : (∑ l, (f l : EReal)) = ((∑ l, f l : ℝ) : EReal) := by
  induction n with
  | zero => simp
  | succ n ih => rw [Fin.sum_univ_succ, Fin.sum_univ_succ, ih, EReal.coe_add]

/-- The square of an extended real is not negative. -/
theorem mul_self_nonneg' (x : EReal) : 0 ≤ x * x := by
  induction x with
  | bot => simp
  | top => simp
  | coe r => rw [← EReal.coe_mul]; exact EReal.coe_nonneg.2 (mul_self_nonneg r)

/-- An infinite entry makes the sum of squares infinite. -/
theorem sum_sq_top {n : ℕ} (v : Fin n → EReal) (l : Fin n) (h : v l = ⊤ ∨ v l = ⊥) : (∑ l, v l * v l) = ⊤ := by
  have hl : v l * v l = ⊤ := by rcases h with h | h <;> rw [h] <;> simp
  exact top_le_iff.1 (hl ▸ Finset.single_le_sum (f := fun l => v l * v l) (fun i _ => mul_self_nonneg' (v i))
    (Finset.mem_univ l))

/-- A row divided by its length is a row of reals whose squares sum to at most one. -/
theorem unit_real {n : ℕ} (v : Fin n → EReal) : ∃ u : Fin n → ℝ, (∀ j, unit v j = (u j : EReal)) ∧ ∑ j, u j * u j ≤ 1 := by
  by_cases h : ∃ l, v l = ⊤ ∨ v l = ⊥
  · obtain ⟨l, hl⟩ := h
    refine ⟨fun _ => 0, fun j => ?_, by simp⟩
    have e : len v = ⊤ := by
      unfold len
      rw [sum_sq_top v l hl]
      exact top_le_iff.1 (le_max_left _ _)
    unfold unit Ideal.div
    rw [e]
    simp
  · push Not at h
    obtain ⟨w, rfl⟩ : ∃ w : Fin n → ℝ, v = fun l => (w l : EReal) :=
      ⟨fun l => (v l).toReal, funext fun l => (EReal.coe_toReal (h l).1 (h l).2).symm⟩
    have hs : (∑ l, (w l : EReal) * (w l : EReal)) = ((∑ l, w l * w l : ℝ) : EReal) := by
      rw [← sum_coe]; simp only [EReal.coe_mul]
    have h0 : 0 ≤ ∑ l, w l * w l := Finset.sum_nonneg fun l _ => mul_self_nonneg _
    have hL : len (fun l => (w l : EReal)) = ((max (Real.sqrt (∑ l, w l * w l)) (9223372 / 2 ^ 63) : ℝ) : EReal) := by
      unfold len
      rw [hs, word_eps, Ideal.sqrt_coe, if_neg (not_lt.2 h0)]
      exact (EReal.coe_strictMono.monotone.map_max).symm
    set L : ℝ := max (Real.sqrt (∑ l, w l * w l)) (9223372 / 2 ^ 63) with hLd
    have hp : 0 < L := lt_of_lt_of_le (by norm_num) (le_max_right _ _)
    refine ⟨fun j => w j * (1 / L), fun j => ?_, ?_⟩
    · unfold unit
      rw [hL, Ideal.div_coe hp.ne', ← EReal.coe_mul]
    · have e : ∀ j, w j * (1 / L) * (w j * (1 / L)) = (w j * w j) * (1 / (L * L)) := fun j => by field_simp
      simp only [e]
      rw [← Finset.sum_mul, mul_one_div, div_le_one (mul_pos hp hp)]
      have : Real.sqrt (∑ l, w l * w l) ≤ L := le_max_left _ _
      calc ∑ l, w l * w l = Real.sqrt (∑ l, w l * w l) * Real.sqrt (∑ l, w l * w l) := (Real.mul_self_sqrt h0).symm
        _ ≤ L * L := mul_le_mul this this (Real.sqrt_nonneg _) hp.le

/-- The score of two rows divided by their lengths is a real of absolute value at most 1/32. -/
theorem score_real {n : ℕ} (v w : Fin n → EReal) : ∃ r : ℝ, score (unit v) (unit w) = (r : EReal) ∧ |r| ≤ 1 / 32 := by
  obtain ⟨a, ha, ha1⟩ := unit_real v
  obtain ⟨b, hb, hb1⟩ := unit_real w
  refine ⟨(∑ l, a l * b l) * (1 / 32), ?_, ?_⟩
  · unfold score
    simp only [ha, hb, ← EReal.coe_mul]
    rw [sum_coe, word_scale, ← EReal.coe_mul]
  · have key : (∑ l, a l * b l) ^ 2 ≤ 1 := by
      refine (Finset.sum_mul_sq_le_sq_mul_sq Finset.univ a b).trans ?_
      simp only [pow_two]
      exact mul_le_one₀ ha1 (Finset.sum_nonneg fun l _ => mul_self_nonneg _) hb1
    rw [abs_mul, abs_of_pos (by norm_num : (0 : ℝ) < 1 / 32)]
    have : |∑ l, a l * b l| ≤ 1 := (sq_le_one_iff_abs_le_one _).1 key
    linarith

end Cert.Spec

end
-- ==== Proof.Select.lean ====
/-
  The search by halving finds the 49 largest entries of a row. A row in descending order is given by an injective map
  `σ` from ranks to positions; the search keeps the entry of rank 48 (ranks count from 0) inside its interval, and when
  the entry of rank 49 is at least one last interval width smaller, the entries that reach the threshold are exactly
  those of ranks 0 to 48.
-/
module

public import proofs.«01_k».proof.Proof.Bound

@[expose] public section

noncomputable section

namespace Cert.Spec

open Idealize.ShloMosaic

/-- `count` is the number of entries that reach `x`. -/
theorem count_eq {n : ℕ} (d : Fin n → EReal) (x : EReal) :
    Spec.count d x = (((Finset.univ.filter fun t => x ≤ d t).card : ℝ) : EReal) := by
  unfold Spec.count
  have : ∀ t, (if x ≤ d t then (1 : EReal) else 0) = (((if x ≤ d t then 1 else 0 : ℝ)) : EReal) := fun t => by
    split <;> simp
  simp only [this]
  rw [sum_coe, Finset.sum_boole]

/-- In a row in descending order under `σ`, at least 49 entries reach `x` exactly when the entry of rank 48 does. -/
theorem kept_le_count {n : ℕ} (d : Fin n → EReal) (σ : Fin n → Fin n) (hσ : Function.Injective σ)
    (hd : ∀ i j, i ≤ j → d (σ j) ≤ d (σ i)) (r : Fin n) (hr : r.val = 48) (x : EReal) :
    Ideal.ofBits .f32 0x42440000#32 ≤ Spec.count d x ↔ x ≤ d (σ r) := by
  have hb : Function.Bijective σ := Finite.injective_iff_bijective.1 hσ
  have e : (Finset.univ.filter fun t => x ≤ d t).card = (Finset.univ.filter fun i => x ≤ d (σ i)).card :=
    (Finset.card_bijective σ hb (by simp)).symm
  rw [count_eq, word_kept, EReal.coe_le_coe_iff, e]
  constructor
  · intro h
    by_contra hx
    have hs : (Finset.univ.filter fun i => x ≤ d (σ i)) ⊆ Finset.Iio r := fun i hi => by
      rw [Finset.mem_Iio]
      by_contra hir
      exact hx ((Finset.mem_filter.1 hi).2.trans (hd r i (not_lt.1 hir)))
    have := Finset.card_le_card hs
    rw [Fin.card_Iio, hr] at this
    have h' : 49 ≤ (Finset.univ.filter fun i => x ≤ d (σ i)).card := by exact_mod_cast h
    omega
  · intro hx
    have hs : Finset.Iic r ⊆ (Finset.univ.filter fun i => x ≤ d (σ i)) := fun i hi =>
      Finset.mem_filter.2 ⟨Finset.mem_univ _, hx.trans (hd i r (Finset.mem_Iic.1 hi))⟩
    have := Finset.card_le_card hs
    rw [Fin.card_Iic, hr] at this
    exact_mod_cast this

/-- After `k` halvings the interval is real, its width is the first one's over `2 ^ k`, and the entry of rank 48 lies in
    it. -/
theorem bisect_spec {n : ℕ} (d : Fin n → EReal) (σ : Fin n → Fin n) (hσ : Function.Injective σ)
    (hd : ∀ i j, i ≤ j → d (σ j) ≤ d (σ i)) (r : Fin n) (hr : r.val = 48) (v : ℝ) (hv : d (σ r) = (v : EReal))
    (hv' : |v| ≤ 1 / 32) (k : ℕ) :
    ∃ lo hi : ℝ, bisect d k = ((lo : EReal), (hi : EReal)) ∧ hi - lo = 2 * bound / 2 ^ k ∧ lo ≤ v ∧ v < hi := by
  induction k with
  | zero =>
    refine ⟨-bound, bound, by simp only [bisect, Function.iterate_zero, id, word_lo, word_hi], by ring, ?_, ?_⟩
    · have := (abs_le.1 hv').1; unfold bound; linarith
    · have := (abs_le.1 hv').2; unfold bound; linarith
  | succ k ih =>
    obtain ⟨lo, hi, e, hw, h1, h2⟩ := ih
    have hm : mid ((lo : EReal), (hi : EReal)) = ((1 / 2 * (lo + hi) : ℝ) : EReal) := by
      simp only [mid, word_half, ← EReal.coe_add, ← EReal.coe_mul]
    have hs : bisect d (k + 1) = halve d (bisect d k) := Function.iterate_succ_apply' _ _ _
    rw [hs, e]
    simp only [halve, hm, kept_le_count d σ hσ hd r hr, hv, EReal.coe_le_coe_iff]
    by_cases h : 1 / 2 * (lo + hi) ≤ v
    · refine ⟨1 / 2 * (lo + hi), hi, by rw [if_pos h], ?_, h, h2⟩
      rw [pow_succ, ← div_div, ← hw]; ring
    · refine ⟨lo, 1 / 2 * (lo + hi), by rw [if_neg h], ?_, h1, not_le.1 h⟩
      rw [pow_succ, ← div_div, ← hw]; ring

/-- A row whose entries of ranks 48 and 49 are at least the last interval width apart keeps, under the threshold of the
    search, exactly its entries of ranks 0 to 48. -/
theorem keep_thr {n : ℕ} (d : Fin n → EReal) (σ : Fin n → Fin n) (hσ : Function.Injective σ)
    (hd : ∀ i j, i ≤ j → d (σ j) ≤ d (σ i)) (hreal : ∀ t, ∃ v : ℝ, d t = (v : EReal) ∧ |v| ≤ 1 / 32)
    (r r' : Fin n) (hr : r.val = 48) (hr' : r'.val = 49)
    (hgap : Ideal.ofBits .f32 0x340147AE#32 ≤ d (σ r) - d (σ r')) (t : Fin n) :
    keep d (thr d) t = if ∃ i : Fin n, i.val < 49 ∧ σ i = t then d t else 0 := by
  obtain ⟨v, hv, hv'⟩ := hreal (σ r)
  obtain ⟨w, hw, -⟩ := hreal (σ r')
  obtain ⟨lo, hi, e, hwid, h1, h2⟩ := bisect_spec d σ hσ hd r hr v hv hv' 19
  rw [hv, hw, word_gap, ← EReal.coe_sub, EReal.coe_le_coe_iff] at hgap
  have hlt : w < lo := by
    have : (2 : ℝ) * bound / 2 ^ 19 = bound / 2 ^ 18 := by ring
    linarith
  have ht : thr d = (lo : EReal) := by unfold thr; rw [e]
  unfold keep
  rw [ht]
  refine if_congr ?_ rfl rfl
  obtain ⟨i, rfl⟩ := (Finite.injective_iff_surjective.1 hσ) t
  constructor
  · intro h
    refine ⟨i, ?_, rfl⟩
    by_contra hi'
    have := h.trans (hd r' i (Fin.le_def.2 (by omega)))
    rw [hw, EReal.coe_le_coe_iff] at this
    linarith
  · rintro ⟨j, hj, hji⟩
    cases hσ hji
    refine le_trans ?_ (hd i r (Fin.le_def.2 (by omega)))
    rw [hv, EReal.coe_le_coe_iff]
    exact h1

end Cert.Spec

end
-- ==== Proof.Equation.lean ====
/-
  The two results are one: on equal arguments whose scores have the gap, the idealized kernel's array is the
  reference's.
-/
module

public import proofs.«01_k».proof.Proof.Chain
public import proofs.«01_k».proof.Proof.Bound
public import proofs.«01_k».proof.Proof.Select
public import proofs.«01_k».proof.Proof.Reference

@[expose] public section

set_option maxRecDepth 16384

noncomputable section

namespace Cert.Equation

open Cert.ReferenceIdeal Cert.ReferenceIdeal.Gen Idealize.ShloMosaic Idealize.ShloMosaic.TcCoe Cert.Spec
open Cert.ReferenceIdeal.Value (scores inputRow entries places kept rows)
open Cert.KernelIdeal.Value (QA KA UA DA TA GA OA stackM stackR)

/-- The kernel's threshold of a row, found in the array of thresholds. -/
theorem thr_at (D : FVec Ideal S4x2048x2048 .f32) (b : Fin 4) (s : Fin 2048) :
    TA D (ix3 (⟨b.val * 8 + s.val / 256, by omega⟩ : Fin 32) (0 : Fin 1) (⟨s.val % 256, by omega⟩ : Fin 256))
      = thr fun t => D (ix3 b s t) := by
  have h0 : (b.val * 8 + s.val / 256) / 8 = b.val := by omega
  have h1 : (b.val * 8 + s.val / 256) % 8 * 256 + s.val % 256 = s.val := by omega
  unfold TA
  exact congrArg thr (funext fun t => congrArg D (congrArg₂ (fun p q => ix3 p q t) (Fin.ext h0) (Fin.ext h1)))

variable (V0 : Valuation τ sig (Elt Ideal))

/-- The kernel's scores of the reference's arguments. -/
abbrev scoresK : FVec Ideal S4x2048x2048 .f32 :=
  DA (QA (V0 (Proc.devRef .tc main_arg0)) (V0 (Proc.devRef .tc main_arg1)))
    (KA (V0 (Proc.devRef .tc main_arg0)) (V0 (Proc.devRef .tc main_arg2)))

/-- The kernel's scores are the reference's. -/
theorem scores_same : scoresK V0 = scores V0 := by
  funext i
  obtain ⟨b, s, t, rfl⟩ : ∃ b s t, i = ix3 b s t := ⟨i 0, i 1, i 2, by pointwise⟩
  rw [Cert.ReferenceIdeal.Value.scores_at]
  rfl

/-- Every score is a real number of size at most 1/32. -/
theorem score_small (b : Fin 4) (s t : Fin 2048) : ∃ v : ℝ, scores V0 (ix3 b s t) = (v : EReal) ∧ |v| ≤ 1 / 32 := by
  rw [Cert.ReferenceIdeal.Value.scores_at]
  exact score_real _ _

/-- A row's gap: its scores of rank 48 and 49 lie apart. -/
def Gap : Prop := ∀ (b : Fin 4) (s : Fin 2048), Ideal.ofBits .f32 0x340147AE#32
  ≤ scores V0 (ix3 b s (ranked (fun t => scores V0 (ix3 b s t)) (48 : Fin 2048)))
    - scores V0 (ix3 b s (ranked (fun t => scores V0 (ix3 b s t)) (49 : Fin 2048)))

/-- What the threshold keeps of a row whose ranks 48 and 49 lie apart. -/
theorem keep_ranked {n : ℕ} (d : Fin n → EReal) (hs : ∀ t, ∃ v : ℝ, d t = (v : EReal) ∧ |v| ≤ 1 / 32) (r r' : Fin n)
    (hr : r.val = 48) (hr' : r'.val = 49) (hg : Ideal.ofBits .f32 0x340147AE#32 ≤ d (ranked d r) - d (ranked d r')) (t : Fin n) :
    keep d (thr d) t = if ∃ i : Fin n, i.val < 49 ∧ ranked d i = t then d t else 0 :=
  keep_thr d (ranked d) (ranked_injective d) (ranked_anti d) hs r r' hr hr' hg t

/-- With the gap, what the threshold keeps is what the reference scatters. -/
theorem kept_same (h : Gap V0) (b : Fin 4) (s t : Fin 2048) :
    keep (fun t => scores V0 (ix3 b s t)) (thr fun t => scores V0 (ix3 b s t)) t = kept V0 (ix3 b s t) := by
  refine Eq.trans ?_ (Cert.ReferenceIdeal.Value.scattered V0 b s t).symm
  refine (keep_ranked (fun t => scores V0 (ix3 b s t)) (score_small V0 b s) 48 49 ?_ ?_ (h b s) t).trans ?_
  · rfl
  · rfl
  · exact ite_iff Iff.rfl _ _

/-- The kernel's rows of the scores `D` and the reference's arguments. -/
abbrev rowsFrom (D : FVec Ideal S4x2048x2048 .f32) : FVec Ideal S4x2048x1024 .bf16 :=
  GA D (TA D) (UA (V0 (Proc.devRef .tc main_arg0)) (V0 (Proc.devRef .tc main_arg3))
      (stackM (V0 (Proc.devRef .tc main_arg4)) (V0 (Proc.devRef .tc main_arg5))
        (V0 (Proc.devRef .tc main_arg6)) (V0 (Proc.devRef .tc main_arg7))))
    (stackR (V0 (Proc.devRef .tc main_arg8)) (V0 (Proc.devRef .tc main_arg9))
        (V0 (Proc.devRef .tc main_arg10)) (V0 (Proc.devRef .tc main_arg11)))
    (stackR (V0 (Proc.devRef .tc main_arg12)) (V0 (Proc.devRef .tc main_arg13))
        (V0 (Proc.devRef .tc main_arg14)) (V0 (Proc.devRef .tc main_arg15)))

/-- The kernel's rows of the reference's arguments. -/
abbrev rowsK : FVec Ideal S4x2048x1024 .bf16 := rowsFrom V0 (scores V0)

/-- With the gap, the kernel's rows are the reference's. -/
theorem rows_same (h : Gap V0) (b : Fin 4) (u : Fin 2048) (j : Fin 1024) : rowsK V0 (ix3 b u j) = rows V0 (ix3 b u j) := by
  have hk : keep (fun t => scores V0 (ix3 b u t)) (TA (scores V0) (ix3 (⟨b.val * 8 + u.val / 256, by omega⟩ : Fin 32)
      (0 : Fin 1) (⟨u.val % 256, by omega⟩ : Fin 256))) = fun t => kept V0 (ix3 b u t) := by
    rw [thr_at]
    exact funext (kept_same V0 h b u)
  rw [Cert.ReferenceIdeal.Value.rows_at, ← hk]
  rfl

/-- With the gap, the kernel's result is the reference's. -/
theorem result_same (h : Gap V0) (b : Fin 4) (s : Fin 2048) (e : Fin 1024) : OA (scores V0) (rowsK V0) (ix3 b s e)
    = proj (soft fun t => scores V0 (ix3 b s t)) (fun t j => rows V0 (ix3 b t j)) e := by
  simp only [← rows_same V0 h]
  rfl

end Cert.Equation

end
-- ==== Proof.Algebraic.lean ====
/-
  The equality of the two results as the claim states it: both programs' runs from memories that agree on the arguments.
-/
module

public import proofs.«01_k».proof.Defs
public import proofs.«01_k».proof.Proof.Gap
public import proofs.«01_k».proof.Proof.Run
public import proofs.«01_k».proof.Proof.Equation

@[expose] public section

set_option maxRecDepth 16384

noncomputable section

namespace Cert.Equation

open Cert.ReferenceIdeal Cert.ReferenceIdeal.Gen Idealize.ShloMosaic Idealize.ShloMosaic.TcCoe Idealize.SL.Sem Cert.Spec
open Cert.ReferenceIdeal.Value (res_main_v178 res_main_v187)
open Cert.KernelIdeal.Value (QA KA UA DA TA GA OA stackM stackR)

/-- The kernel's result as a function of its sixteen arguments. -/
def resultK (x : FVec Ideal S4x2048x1024 .f32) (q k v a0 a1 a2 a3 : FVec Ideal S1024x1024 .f32)
    (g0 g1 g2 g3 b0 b1 b2 b3 : FVec Ideal S1024 .f32) : FVec Ideal S4x2048x1024 .f32 :=
  OA (DA (QA x q) (KA x k)) (GA (DA (QA x q) (KA x k)) (TA (DA (QA x q) (KA x k))) (UA x v (stackM a0 a1 a2 a3))
    (stackR g0 g1 g2 g3) (stackR b0 b1 b2 b3))

/-- The kernel's result on one device, of its arguments there. -/
abbrev resultAt (m : (ℓ : Loc Cert.KernelIdeal.nD Cert.KernelIdeal.τ Cert.KernelIdeal.sig) → Buf (Elt Ideal) ℓ)
    (c : Dev Cert.KernelIdeal.nD) : FVec Ideal S4x2048x1024 .f32 :=
  resultK (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))

/-- The reference's result is the kernel's function of the reference's arguments, where the scores have the gap. -/
theorem result_eq (V0 : Valuation τ sig (Elt Ideal)) (h : Gap V0) :
    Host.dotGeneral (so := S4x2048x1024) (φ₁ := .f32) (φ₂ := .f32) dot_S4x2048x2048_S4x2048x1024_S4x2048x1024_2_1_1_2_0_0 none
      (Host.divf (res_main_v187 V0)
      (broadcastInDim S4x2048x2048 ![0, 1, 2] bcast_S4x2048x1_S4x2048x2048_0_1_2 (broadcastInDim S4x2048x1 ![0, 1]
        bcast_S4x2048_S4x2048x1_0_1 (Host.reduceAdd (res_main_v187 V0) (constant S_ .f32 0x00000000#32)
          reducesTo_S4x2048x2048_S4x2048_d2 h_S_)))) (res_main_v178 V0)
    = resultK (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5))
      (V0 (Proc.devRef .tc main_arg6)) (V0 (Proc.devRef .tc main_arg7)) (V0 (Proc.devRef .tc main_arg8))
      (V0 (Proc.devRef .tc main_arg9)) (V0 (Proc.devRef .tc main_arg10)) (V0 (Proc.devRef .tc main_arg11))
      (V0 (Proc.devRef .tc main_arg12)) (V0 (Proc.devRef .tc main_arg13)) (V0 (Proc.devRef .tc main_arg14))
      (V0 (Proc.devRef .tc main_arg15)) := by
  refine Eq.trans (b := OA (Cert.ReferenceIdeal.Value.scores V0) (rowsK V0)) ?_
    (congrArg (fun D => OA D (rowsFrom V0 D)) (scores_same V0).symm)
  funext i
  obtain ⟨b, s, e, rfl⟩ : ∃ b s e, i = ix3 b s e := ⟨i 0, i 1, i 2, by pointwise⟩
  exact (Cert.ReferenceIdeal.Value.result_at V0 b s e).trans (result_same V0 h b s e).symm

/-- Where the scores have the gap, the idealized kernel and the reference end with equal results on equal arguments. -/
theorem algebraic : Cert.algebraic_KernelIdeal_ReferenceIdeal_pre_kth_score_gap := by
  intro m g m' g' hpre hagree
  refine ⟨resultAt m, θ_run_mono (Cert.KernelIdeal.Value.run m g) fun r h c =>
      ⟨(h c).1.trans (Cert.KernelIdeal.Value.result m g c), (h c).2⟩,
    θ_run_mono (Cert.ReferenceIdeal.Value.run m' g') fun r h c => ⟨(h c).1.trans ?_, (h c).2⟩⟩
  have hp := hpre c
  obtain ⟨h0, h1, h2, h3, h4, h5, h6, h7, h8, h9, h10, h11, h12, h13, h14, h15⟩ := hagree c
  unfold resultAt
  rw [← h0, ← h1, ← h2] at hp ⊢
  rw [← h3, ← h4, ← h5, ← h6, ← h7, ← h8, ← h9, ← h10, ← h11, ← h12, ← h13, ← h14, ← h15]
  exact result_eq (StableHlo.launchContents m' c) (Cert.Pre_kth_score_gap.Value.gap_of _
    ((Cert.Pre_kth_score_gap.Value.fn_eq (StableHlo.launchContents m' c) _ _ _ _ _ _ _ _ _ _ _ _ _).symm.trans hp))

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_kth_score_gap
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference leaves its arguments as launched and declares no semaphore. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The certificate: the three frames, the idealization's ledger, the equality of the results. -/
theorem claim : Cert.Claim :=
  ⟨Cert.Kernel.Gen.facts, Cert.KernelIdeal.Gen.facts, Cert.ReferenceIdeal.Gen.facts, Cert.Pre_kth_score_gap.Gen.facts,
    fun m ρ _ => Cert.Kernel.Gen.frame m ρ,
    fun m ρ _ => Cert.KernelIdeal.Gen.frame m ρ,
    fun m ρ _ => Cert.KernelIdeal.Gen.frame m ρ,
    reference_frame, fun m ρ _ => reference_frame m ρ trivial, trivial, Cert.Equation.algebraic⟩

end Cert.Proof

end
